-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v42) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S22x32768x128 : Shape := ⟨3, ![22, 32768, 128]⟩
abbrev S8 : Shape := ⟨1, ![8]⟩
abbrev S5x32768x128 : Shape := ⟨3, ![5, 32768, 128]⟩
abbrev S_ : Shape := ⟨0, ![]⟩

class Facts : Prop where
  slices_S22x32768x128_S5x32768x128_0_0_0 : S22x32768x128.Slices ![0, 0, 0] S5x32768x128
  bcast_S_S5x32768x128 : S_.BroadcastsInDim S5x32768x128 (![] : Fin 0 → Fin S5x32768x128.rank)
  bcast_S_S8 : S_.BroadcastsInDim S8 (![] : Fin 0 → Fin S8.rank)

variable [Facts]

def fn {F : FTy → Type} [FloatOps F] (main_arg0 : FVec F S22x32768x128 .f32) (main_arg1 : FVec F S8 .f32) : IVec S5x32768x128 1 × IVec S8 1 :=
  let main_v0 : FVec F S5x32768x128 .f32 := (extractStridedSlice S5x32768x128 ![0, 0, 0] · slices_S22x32768x128_S5x32768x128_0_0_0) main_arg0
  let main_v1 : FVec F S5x32768x128 .f32 := Host.absf main_v0
  let main_cst : FVec F S_ .f32 := constant S_ .f32 0x7F800000#32
  let main_v2 : FVec F S5x32768x128 .f32 := broadcastInDim S5x32768x128 ![] bcast_S_S5x32768x128 main_cst
  let main_v3 : IVec S5x32768x128 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  (main_v3, main_v6)
-- ==== Kernel.lean ====
abbrev S22x32768x128 : Shape := ⟨3, ![22, 32768, 128]⟩
abbrev S8 : Shape := ⟨1, ![8]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x2x4x128x256 : Shape := ⟨5, ![1, 2, 4, 128, 256]⟩
abbrev S2x2x4x128x256 : Shape := ⟨5, ![2, 2, 4, 128, 256]⟩
abbrev S2x2x512x256 : Shape := ⟨4, ![2, 2, 512, 256]⟩
abbrev S1x8 : Shape := ⟨2, ![1, 8]⟩
abbrev S32768x512 : Shape := ⟨2, ![32768, 512]⟩
abbrev S2x1x512x256 : Shape := ⟨4, ![2, 1, 512, 256]⟩
abbrev S2x2048x128 : Shape := ⟨3, ![2, 2048, 128]⟩
abbrev S1x2048x128 : Shape := ⟨3, ![1, 2048, 128]⟩
abbrev S1x128x128 : Shape := ⟨3, ![1, 128, 128]⟩
abbrev S2048x256 : Shape := ⟨2, ![2048, 256]⟩
abbrev S128x128 : Shape := ⟨2, ![128, 128]⟩
abbrev S2048x128 : Shape := ⟨2, ![2048, 128]⟩
abbrev S2176x128 : Shape := ⟨2, ![2176, 128]⟩
abbrev S2176x256 : Shape := ⟨2, ![2176, 256]⟩
abbrev S512x1 : Shape := ⟨2, ![512, 1]⟩
abbrev S1x1 : Shape := ⟨2, ![1, 1]⟩
abbrev S1x1x512x256 : Shape := ⟨4, ![1, 1, 512, 256]⟩
abbrev S512x256 : Shape := ⟨2, ![512, 256]⟩
abbrev S256x256 : Shape := ⟨2, ![256, 256]⟩
abbrev S512 : Shape := ⟨1, ![512]⟩

abbrev nBuf : Space → Nat
  | .hbm => 60
  | .vmem => 14
  | .smem => 1
  | _ => 0

abbrev bufTy : (tb : Table) → Fin (tcTables nBuf tb) → BufTy
  | .hbm, ⟨0, _⟩ => ⟨S22x32768x128, .f32⟩
  | .hbm, ⟨1, _⟩ => ⟨S8, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S256, .i32⟩
  | .hbm, ⟨19, _⟩ => ⟨S1x256, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i1⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S2x4x1x1, .f32⟩
  | .hbm, ⟨36, _⟩ => ⟨S2x4x1x1, .f32⟩
  | .hbm, ⟨37, _⟩ => ⟨S128x256, .f32⟩
  | .hbm, ⟨38, _⟩ => ⟨S1x1x128x256, .f32⟩
  | .hbm, ⟨39, _⟩ => ⟨S2x4x128x256, .f32⟩
  | .hbm, ⟨40, _⟩ => ⟨S2x4x128x256, .f32⟩
  | .hbm, ⟨41, _⟩ => ⟨S2x4x128x256, .f32⟩
  | .hbm, ⟨42, _⟩ => ⟨S128x256, .i1⟩
  | .hbm, ⟨43, _⟩ => ⟨S128x256, .i1⟩
  | .hbm, ⟨44, _⟩ => ⟨S_, .f32⟩
  | .hbm, ⟨45, _⟩ => ⟨S_, .f32⟩
  | .hbm, ⟨46, _⟩ => ⟨S2x4x128x256, .i1⟩
  | .hbm, ⟨47, _⟩ => ⟨S2x4x128x256, .f32⟩
  | .hbm, ⟨48, _⟩ => ⟨S2x4x128x256, .f32⟩
  | .hbm, ⟨49, _⟩ => ⟨S_, .f32⟩
  | .hbm, ⟨50, _⟩ => ⟨S_, .f32⟩
  | .hbm, ⟨51, _⟩ => ⟨S2x4x128x256, .i1⟩
  | .hbm, ⟨52, _⟩ => ⟨S2x4x128x256, .f32⟩
  | .hbm, ⟨53, _⟩ => ⟨S2x4x128x256, .f32⟩
  | .hbm, ⟨54, _⟩ => ⟨S1x2x4x128x256, .f32⟩
  | .hbm, ⟨55, _⟩ => ⟨S1x2x4x128x256, .f32⟩
  | .hbm, ⟨56, _⟩ => ⟨S2x2x4x128x256, .f32⟩
  | .hbm, ⟨57, _⟩ => ⟨S2x2x512x256, .f32⟩
  | .hbm, ⟨58, _⟩ => ⟨S1x8, .f32⟩
  | .hbm, ⟨59, _⟩ => ⟨S32768x512, .bf16⟩
  | .local _ .vmem, ⟨0, _⟩ => ⟨S2x1x512x256, .f32⟩
  | .local _ .vmem, ⟨1, _⟩ => ⟨S2x1x512x256, .f32⟩
  | .local _ .vmem, ⟨2, _⟩ => ⟨S2x2048x128, .f32⟩
  | .local _ .vmem, ⟨3, _⟩ => ⟨S2x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128x128, .f32⟩
  | .local _ .vmem, ⟨7, _⟩ => ⟨S1x128x128, .f32⟩
  | .local _ .vmem, ⟨8, _⟩ => ⟨S1x2048x128, .f32⟩
  | .local _ .vmem, ⟨9, _⟩ => ⟨S1x2048x128, .f32⟩
  | .local _ .vmem, ⟨10, _⟩ => ⟨S1x128x128, .f32⟩
  | .local _ .vmem, ⟨11, _⟩ => ⟨S1x128x128, .f32⟩
  | .local _ .vmem, ⟨12, _⟩ => ⟨S2048x256, .bf16⟩
  | .local _ .vmem, ⟨13, _⟩ => ⟨S2048x256, .bf16⟩
  | .local _ .smem, ⟨0, _⟩ => ⟨S1x8, .f32⟩
  | _, _ => ⟨S22x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v35 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 2, 4], ![false, false, false]⟩

def k0_off1 (i : grid0.Coords) (c0_i32_38 : BitVec 32) : Fin 2 → Nat :=
  let c0_39 : Index := 0#32
  let arg1 : BitVec 32 := BitVec.ofNat 32 (i 1).val
  let c4_i32 : BitVec 32 := 4#32
  let v125 : BitVec 32 := Scalar.muli arg1 c4_i32
  let v126 : BitVec 32 := Scalar.addi v125 c0_i32_38
  let v127 : Index := Scalar.indexCast v126
  ![0, v127.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let c0_i32 : BitVec 32 := 0#32
  let c0_i32_1 : BitVec 32 := 0#32
  ![c4_i32_0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.muli v0 c16_i32
  let c16_i32_0 : BitVec 32 := 16#32
  let v2 : BitVec 32 := Scalar.muli arg2 c16_i32_0
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v1 v4
  let c4_i32_1 : BitVec 32 := 4#32
  let c0_i32_2 : BitVec 32 := 0#32
  let c0_i32_3 : BitVec 32 := 0#32
  ![c4_i32_1.toNat, v5.toNat, c0_i32_2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c5_i32 : BitVec 32 := 5#32
  let c0_i32 : BitVec 32 := 0#32
  let c0_i32_0 : BitVec 32 := 0#32
  ![c5_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.muli v0 c16_i32
  let c16_i32_0 : BitVec 32 := 16#32
  let v2 : BitVec 32 := Scalar.muli arg2 c16_i32_0
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v1 v4
  let c5_i32 : BitVec 32 := 5#32
  let c0_i32_1 : BitVec 32 := 0#32
  let c0_i32_2 : BitVec 32 := 0#32
  ![c5_i32.toNat, v5.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S22x32768x128 : Shape := ⟨3, ![22, 32768, 128]⟩
abbrev S8 : Shape := ⟨1, ![8]⟩
abbrev S32768x22x128 : Shape := ⟨3, ![32768, 22, 128]⟩
abbrev S4x8192x2816 : Shape := ⟨3, ![4, 8192, 2816]⟩
abbrev S4x8192x512 : Shape := ⟨3, ![4, 8192, 512]⟩
abbrev S4x8192x128 : Shape := ⟨3, ![4, 8192, 128]⟩
abbrev S4x64x128x2x4x64 : Shape := ⟨6, ![4, 64, 128, 2, 4, 64]⟩
abbrev S4x64x128x2x64 : Shape := ⟨5, ![4, 64, 128, 2, 64]⟩
abbrev S4x63x128x2x64 : Shape := ⟨5, ![4, 63, 128, 2, 64]⟩
abbrev S_ : Shape := ⟨0, ![]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x64x1x1x128x256 : Shape := ⟨6, ![1, 64, 1, 1, 128, 256]⟩
abbrev S1x1x2x4x1x1 : Shape := ⟨6, ![1, 1, 2, 4, 1, 1]⟩
abbrev S4x64x2x4x128 : Shape := ⟨5, ![4, 64, 2, 4, 128]⟩
abbrev S4x64x2x4x128x1 : Shape := ⟨6, ![4, 64, 2, 4, 128, 1]⟩
abbrev S4x64x2x4x128x64 : Shape := ⟨6, ![4, 64, 2, 4, 128, 64]⟩
abbrev S32768x512 : Shape := ⟨2, ![32768, 512]⟩

abbrev nBuf : Space → Nat
  | .hbm => 108
  | .vmem => 0
  | .smem => 0
  | _ => 0

abbrev bufTy : (tb : Table) → Fin (tcTables nBuf tb) → BufTy
  | .hbm, ⟨0, _⟩ => ⟨S22x32768x128, .f32⟩
  | .hbm, ⟨1, _⟩ => ⟨S8, .f32⟩
  | .hbm, ⟨2, _⟩ => ⟨S32768x22x128, .f32⟩
  | .hbm, ⟨3, _⟩ => ⟨S4x8192x2816, .f32⟩
  | .hbm, ⟨4, _⟩ => ⟨S4x8192x512, .f32⟩
  | .hbm, ⟨5, _⟩ => ⟨S4x8192x128, .f32⟩
  | .hbm, ⟨6, _⟩ => ⟨S4x8192x128, .f32⟩
  | .hbm, ⟨7, _⟩ => ⟨S4x64x128x2x4x64, .f32⟩
  | .hbm, ⟨8, _⟩ => ⟨S4x64x128x2x64, .f32⟩
  | .hbm, ⟨9, _⟩ => ⟨S4x64x128x2x64, .f32⟩
  | .hbm, ⟨10, _⟩ => ⟨S4x63x128x2x64, .f32⟩
  | .hbm, ⟨11, _⟩ => ⟨S_, .i32⟩
  | .hbm, ⟨12, _⟩ => ⟨S_, .f32⟩
  | .hbm, ⟨13, _⟩ => ⟨S4x64x128x2x64, .f32⟩
  | .hbm, ⟨14, _⟩ => ⟨S4x64x256x2x64, .f32⟩
  | .hbm, ⟨15, _⟩ => ⟨S4x63x128x2x64, .f32⟩
  | .hbm, ⟨16, _⟩ => ⟨S_, .i32⟩
  | .hbm, ⟨17, _⟩ => ⟨S_, .f32⟩
  | .hbm, ⟨18, _⟩ => ⟨S4x64x128x2x64, .f32⟩
  | .hbm, ⟨19, _⟩ => ⟨S4x64x256x2x64, .f32⟩
  | .hbm, ⟨20, _⟩ => ⟨S4x64x2x256x128x4, .f32⟩
  | .hbm, ⟨21, _⟩ => ⟨S4x64x2x4x128x256, .f32⟩
  | .hbm, ⟨22, _⟩ => ⟨S_, .f32⟩
  | .hbm, ⟨23, _⟩ => ⟨S4x64x2x4x128x256, .f32⟩
  | .hbm, ⟨24, _⟩ => ⟨S4x64x2x4x128x256, .f32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S256, .i32⟩
  | .hbm, ⟨30, _⟩ => ⟨S128x1, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S1x128x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S128x256, .f32⟩
  | .hbm, ⟨59, _⟩ => ⟨S8, .i32⟩
  | .hbm, ⟨60, _⟩ => ⟨S_, .i32⟩
  | .hbm, ⟨61, _⟩ => ⟨S8, .i32⟩
  | .hbm, ⟨62, _⟩ => ⟨S8, .i32⟩
  | .hbm, ⟨63, _⟩ => ⟨S_, .i32⟩
  | .hbm, ⟨64, _⟩ => ⟨S8, .i32⟩
  | .hbm, ⟨65, _⟩ => ⟨S8, .i32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S2x4, .f32⟩
  | .hbm, ⟨71, _⟩ => ⟨S2x4x1x1, .f32⟩
  | .hbm, ⟨72, _⟩ => ⟨S1x1x128x256, .f32⟩
  | .hbm, ⟨73, _⟩ => ⟨S2x4x128x256, .f32⟩
  | .hbm, ⟨74, _⟩ => ⟨S2x4x128x256, .f32⟩
  | .hbm, ⟨75, _⟩ => ⟨S2x4x128x256, .f32⟩
  | .hbm, ⟨76, _⟩ => ⟨S1x1x2x4x128x256, .f32⟩
  | .hbm, ⟨77, _⟩ => ⟨S4x64x2x4x128x256, .f32⟩
  | .hbm, ⟨78, _⟩ => ⟨S4x64x2x4x128x256, .f32⟩
  | .hbm, ⟨79, _⟩ => ⟨S1x64x1x1x128x256, .i1⟩
  | .hbm, ⟨80, _⟩ => ⟨S_, .f32⟩
  | .hbm, ⟨81, _⟩ => ⟨S_, .f32⟩
  | .hbm, ⟨82, _⟩ => ⟨S4x64x2x4x128x256, .i1⟩
  | .hbm, ⟨83, _⟩ => ⟨S4x64x2x4x128x256, .f32⟩
  | .hbm, ⟨84, _⟩ => ⟨S4x64x2x4x128x256, .f32⟩
  | .hbm, ⟨85, _⟩ => ⟨S2x4, .f32⟩
  | .hbm, ⟨86, _⟩ => ⟨S1x1x2x4x1x1, .f32⟩
  | .hbm, ⟨87, _⟩ => ⟨S_, .f32⟩
  | .hbm, ⟨88, _⟩ => ⟨S4x64x2x4x128, .f32⟩
  | .hbm, ⟨89, _⟩ => ⟨S4x64x2x4x128x1, .f32⟩
  | .hbm, ⟨90, _⟩ => ⟨S4x64x2x4x128x1, .f32⟩
  | .hbm, ⟨91, _⟩ => ⟨S4x64x2x4x128x1, .f32⟩
  | .hbm, ⟨92, _⟩ => ⟨S4x64x2x4x128x256, .f32⟩
  | .hbm, ⟨93, _⟩ => ⟨S4x64x2x4x128x256, .f32⟩
  | .hbm, ⟨94, _⟩ => ⟨S4x64x2x4x128x256, .f32⟩
  | .hbm, ⟨95, _⟩ => ⟨S_, .f32⟩
  | .hbm, ⟨96, _⟩ => ⟨S4x64x2x4x128, .f32⟩
  | .hbm, ⟨97, _⟩ => ⟨S4x64x2x4x128x1, .f32⟩
  | .hbm, ⟨98, _⟩ => ⟨S4x64x2x4x128x1, .f32⟩
  | .hbm, ⟨99, _⟩ => ⟨S4x64x2x4x128x1, .f32⟩
  | .hbm, ⟨100, _⟩ => ⟨S4x64x2x4x128x1, .f32⟩
  | .hbm, ⟨101, _⟩ => ⟨S4x64x2x4x128x1, .f32⟩
  | .hbm, ⟨102, _⟩ => ⟨S4x64x2x4x128x256, .f32⟩
  | .hbm, ⟨103, _⟩ => ⟨S4x64x2x4x128x256, .f32⟩
  | .hbm, ⟨104, _⟩ => ⟨S4x64x2x4x128x64, .f32⟩
  | .hbm, ⟨105, _⟩ => ⟨S4x64x128x2x4x64, .f32⟩
  | .hbm, ⟨106, _⟩ => ⟨S32768x512, .f32⟩
  | .hbm, ⟨107, _⟩ => ⟨S32768x512, .bf16⟩
  | _, _ => ⟨S22x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩

abbrev nD : Nat := 1
abbrev τ : Topo := Topo.v7x

variable {F : FTy → Type} [FloatOps F]
-- ==== Kernel2.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024 : Shape := ⟨2, ![2, 1024]⟩
abbrev S2x1024x2048 : Shape := ⟨3, ![2, 1024, 2048]⟩
abbrev S1024 : Shape := ⟨1, ![1024]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S512x1024 : Shape := ⟨2, ![512, 1024]⟩
abbrev S1x1024x2048 : Shape := ⟨3, ![1, 1024, 2048]⟩
abbrev S1x1x1024x5632 : Shape := ⟨4, ![1, 1, 1024, 5632]⟩
abbrev S1x1x2816x1024 : Shape := ⟨4, ![1, 1, 2816, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024, .f32⟩
  | .hbm, ⟨7, _⟩ => ⟨S2x1024x2048, .f32⟩
  | .hbm, ⟨8, _⟩ => ⟨S1024, .f32⟩
  | .hbm, ⟨9, _⟩ => ⟨S1x3x1024, .f32⟩
  | .hbm, ⟨10, _⟩ => ⟨S3x1024, .f32⟩
  | .hbm, ⟨11, _⟩ => ⟨S3x1x1024, .f32⟩
  | .hbm, ⟨12, _⟩ => ⟨S1x1x1024, .f32⟩
  | .hbm, ⟨13, _⟩ => ⟨S1x1024, .f32⟩
  | .hbm, ⟨14, _⟩ => ⟨S4x2x1024x5632, .bf16⟩
  | .hbm, ⟨15, _⟩ => ⟨S4x2x2816x1024, .bf16⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2x1024x2048, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024x2048, .bf16⟩
  | .local _ .vmem, ⟨8, _⟩ => ⟨S1x1024, .f32⟩
  | .local _ .vmem, ⟨9, _⟩ => ⟨S1x1x1024x5632, .bf16⟩
  | .local _ .vmem, ⟨10, _⟩ => ⟨S1x1x2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024 : Shape := ⟨2, ![2, 1024]⟩
abbrev S2x1024x2048 : Shape := ⟨3, ![2, 1024, 2048]⟩
abbrev S1024 : Shape := ⟨1, ![1024]⟩
abbrev S1x1024 : Shape := ⟨2, ![1, 1024]⟩
abbrev S_ : Shape := ⟨0, ![]⟩
abbrev S1x1024x2048 : Shape := ⟨3, ![1, 1024, 2048]⟩
abbrev S1024x2048 : Shape := ⟨2, ![1024, 2048]⟩
abbrev S32768x2048 : Shape := ⟨2, ![32768, 2048]⟩
abbrev S1x1x1024 : Shape := ⟨3, ![1, 1, 1024]⟩
abbrev S32768 : Shape := ⟨1, ![32768]⟩
abbrev S32768x1 : Shape := ⟨2, ![32768, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 103
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024, .f32⟩
  | .hbm, ⟨7, _⟩ => ⟨S2x1024x2048, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1x1024x2048, .f32⟩
  | .hbm, ⟨33, _⟩ => ⟨S1024x2048, .f32⟩
  | .hbm, ⟨34, _⟩ => ⟨S32768x2048, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1x1x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1x1x1024x5632, .f32⟩
  | .hbm, ⟨66, _⟩ => ⟨S1024x5632, .f32⟩
  | .hbm, ⟨67, _⟩ => ⟨S1x1x2816x1024, .f32⟩
  | .hbm, ⟨68, _⟩ => ⟨S2816x1024, .f32⟩
  | .hbm, ⟨69, _⟩ => ⟨S32768x5632, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S32768x2816, .f32⟩
  | .hbm, ⟨74, _⟩ => ⟨S_, .f32⟩
  | .hbm, ⟨75, _⟩ => ⟨S32768x2816, .f32⟩
  | .hbm, ⟨76, _⟩ => ⟨S32768x2816, .f32⟩
  | .hbm, ⟨77, _⟩ => ⟨S_, .f32⟩
  | .hbm, ⟨78, _⟩ => ⟨S32768x2816, .f32⟩
  | .hbm, ⟨79, _⟩ => ⟨S32768x2816, .f32⟩
  | .hbm, ⟨80, _⟩ => ⟨S32768x2816, .f32⟩
  | .hbm, ⟨81, _⟩ => ⟨S32768x2816, .f32⟩
  | .hbm, ⟨82, _⟩ => ⟨S32768x1024, .f32⟩
  | .hbm, ⟨83, _⟩ => ⟨S_, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768, .f32⟩
  | .hbm, ⟨90, _⟩ => ⟨S32768x1, .f32⟩
  | .hbm, ⟨91, _⟩ => ⟨S_, .f32⟩
  | .hbm, ⟨92, _⟩ => ⟨S32768x1, .f32⟩
  | .hbm, ⟨93, _⟩ => ⟨S32768x1, .f32⟩
  | .hbm, ⟨94, _⟩ => ⟨S_, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S1x1024, .f32⟩
  | .hbm, ⟨101, _⟩ => ⟨S32768x1024, .f32⟩
  | .hbm, ⟨102, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_9 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel3.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024 : Shape := ⟨2, ![2, 1024]⟩
abbrev S2x1024x2048 : Shape := ⟨3, ![2, 1024, 2048]⟩
abbrev S1024 : Shape := ⟨1, ![1024]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S512x1024 : Shape := ⟨2, ![512, 1024]⟩
abbrev S1x1024x2048 : Shape := ⟨3, ![1, 1024, 2048]⟩
abbrev S1x1x1024x5632 : Shape := ⟨4, ![1, 1, 1024, 5632]⟩
abbrev S1x1x2816x1024 : Shape := ⟨4, ![1, 1, 2816, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024, .f32⟩
  | .hbm, ⟨7, _⟩ => ⟨S2x1024x2048, .f32⟩
  | .hbm, ⟨8, _⟩ => ⟨S1024, .f32⟩
  | .hbm, ⟨9, _⟩ => ⟨S1x3x1024, .f32⟩
  | .hbm, ⟨10, _⟩ => ⟨S3x1024, .f32⟩
  | .hbm, ⟨11, _⟩ => ⟨S3x1x1024, .f32⟩
  | .hbm, ⟨12, _⟩ => ⟨S1x1x1024, .f32⟩
  | .hbm, ⟨13, _⟩ => ⟨S1x1024, .f32⟩
  | .hbm, ⟨14, _⟩ => ⟨S4x2x1024x5632, .bf16⟩
  | .hbm, ⟨15, _⟩ => ⟨S4x2x2816x1024, .bf16⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2x1024x2048, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024x2048, .bf16⟩
  | .local _ .vmem, ⟨8, _⟩ => ⟨S1x1024, .f32⟩
  | .local _ .vmem, ⟨9, _⟩ => ⟨S1x1x1024x5632, .bf16⟩
  | .local _ .vmem, ⟨10, _⟩ => ⟨S1x1x2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024 : Shape := ⟨2, ![2, 1024]⟩
abbrev S2x1024x2048 : Shape := ⟨3, ![2, 1024, 2048]⟩
abbrev S1024 : Shape := ⟨1, ![1024]⟩
abbrev S1x1024 : Shape := ⟨2, ![1, 1024]⟩
abbrev S_ : Shape := ⟨0, ![]⟩
abbrev S1x1024x2048 : Shape := ⟨3, ![1, 1024, 2048]⟩
abbrev S1024x2048 : Shape := ⟨2, ![1024, 2048]⟩
abbrev S32768x2048 : Shape := ⟨2, ![32768, 2048]⟩
abbrev S1x1x1024 : Shape := ⟨3, ![1, 1, 1024]⟩
abbrev S32768 : Shape := ⟨1, ![32768]⟩
abbrev S32768x1 : Shape := ⟨2, ![32768, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 87
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024, .f32⟩
  | .hbm, ⟨7, _⟩ => ⟨S2x1024x2048, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1x1024x2048, .f32⟩
  | .hbm, ⟨33, _⟩ => ⟨S1024x2048, .f32⟩
  | .hbm, ⟨34, _⟩ => ⟨S32768x2048, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1x1x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1x1x1024x5632, .f32⟩
  | .hbm, ⟨66, _⟩ => ⟨S1024x5632, .f32⟩
  | .hbm, ⟨67, _⟩ => ⟨S1x1x2816x1024, .f32⟩
  | .hbm, ⟨68, _⟩ => ⟨S2816x1024, .f32⟩
  | .hbm, ⟨69, _⟩ => ⟨S32768x5632, .f32⟩
  | .hbm, ⟨70, _⟩ => ⟨S32768x2816, .f32⟩
  | .hbm, ⟨71, _⟩ => ⟨S32768x2816, .f32⟩
  | .hbm, ⟨72, _⟩ => ⟨S32768x2816, .f32⟩
  | .hbm, ⟨73, _⟩ => ⟨S32768x2816, .f32⟩
  | .hbm, ⟨74, _⟩ => ⟨S_, .f32⟩
  | .hbm, ⟨75, _⟩ => ⟨S32768x2816, .f32⟩
  | .hbm, ⟨76, _⟩ => ⟨S32768x2816, .f32⟩
  | .hbm, ⟨77, _⟩ => ⟨S_, .f32⟩
  | .hbm, ⟨78, _⟩ => ⟨S32768x2816, .f32⟩
  | .hbm, ⟨79, _⟩ => ⟨S32768x2816, .f32⟩
  | .hbm, ⟨80, _⟩ => ⟨S32768x2816, .f32⟩
  | .hbm, ⟨81, _⟩ => ⟨S32768x2816, .f32⟩
  | .hbm, ⟨82, _⟩ => ⟨S32768x1024, .f32⟩
  | .hbm, ⟨83, _⟩ => ⟨S_, .f32⟩
  | .hbm, ⟨84, _⟩ => ⟨S32768x1024, .f32⟩
  | .hbm, ⟨85, _⟩ => ⟨S32768x1024, .f32⟩
  | .hbm, ⟨86, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1024 : Shape := ⟨1, ![1024]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S1024x1024 : Shape := ⟨2, ![1024, 1024]⟩
abbrev S1024x512 : Shape := ⟨2, ![1024, 512]⟩
abbrev S1x1024x1024 : Shape := ⟨3, ![1, 1024, 1024]⟩
abbrev S1x1x1024x5632 : Shape := ⟨4, ![1, 1, 1024, 5632]⟩
abbrev S1x1x2816x1024 : Shape := ⟨4, ![1, 1, 2816, 1024]⟩
abbrev S1x512x1024 : Shape := ⟨3, ![1, 512, 1024]⟩
abbrev S512x1024 : Shape := ⟨2, ![512, 1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 18
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024x1024, .f32⟩
  | .hbm, ⟨7, _⟩ => ⟨S1024, .f32⟩
  | .hbm, ⟨8, _⟩ => ⟨S1x3x1024, .f32⟩
  | .hbm, ⟨9, _⟩ => ⟨S3x1024, .f32⟩
  | .hbm, ⟨10, _⟩ => ⟨S3x1x1024, .f32⟩
  | .hbm, ⟨11, _⟩ => ⟨S1x1x1024, .f32⟩
  | .hbm, ⟨12, _⟩ => ⟨S1x1024, .f32⟩
  | .hbm, ⟨13, _⟩ => ⟨S4x2x1024x5632, .bf16⟩
  | .hbm, ⟨14, _⟩ => ⟨S4x2x2816x1024, .bf16⟩
  | .hbm, ⟨15, _⟩ => ⟨S1x1024, .f32⟩
  | .hbm, ⟨16, _⟩ => ⟨S2x1024x1024, .bf16⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1x1024, .f32⟩
  | .local _ .vmem, ⟨8, _⟩ => ⟨S1x1x1024x5632, .bf16⟩
  | .local _ .vmem, ⟨9, _⟩ => ⟨S1x1x2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x1024 : Shape := ⟨2, ![32768, 1024]⟩
abbrev S32768x512 : Shape := ⟨2, ![32768, 512]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S4x3x1024, .f32⟩
  | .hbm, ⟨4, _⟩ => ⟨S4x2x1024x5632, .f32⟩
  | .hbm, ⟨5, _⟩ => ⟨S4x2x2816x1024, .f32⟩
  | .hbm, ⟨6, _⟩ => ⟨S2x1024x1024, .f32⟩
  | .hbm, ⟨7, _⟩ => ⟨S1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S1x1024x1024, .f32⟩
  | .hbm, ⟨12, _⟩ => ⟨S1024x1024, .f32⟩
  | .hbm, ⟨13, _⟩ => ⟨S32768x1024, .f32⟩
  | .hbm, ⟨14, _⟩ => ⟨S32768x1024, .f32⟩
  | .hbm, ⟨15, _⟩ => ⟨S1x1x1024, .f32⟩
  | .hbm, ⟨16, _⟩ => ⟨S1024, .f32⟩
  | .hbm, ⟨17, _⟩ => ⟨S32768x1024, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1x1x1024x5632, .f32⟩
  | .hbm, ⟨34, _⟩ => ⟨S1024x5632, .f32⟩
  | .hbm, ⟨35, _⟩ => ⟨S1x1x2816x1024, .f32⟩
  | .hbm, ⟨36, _⟩ => ⟨S2816x1024, .f32⟩
  | .hbm, ⟨37, _⟩ => ⟨S32768x5632, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S_, .f32⟩
  | .hbm, ⟨43, _⟩ => ⟨S32768x2816, .f32⟩
  | .hbm, ⟨44, _⟩ => ⟨S32768x2816, .f32⟩
  | .hbm, ⟨45, _⟩ => ⟨S_, .f32⟩
  | .hbm, ⟨46, _⟩ => ⟨S32768x2816, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel5.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 15
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S1x3x1024, .f32⟩
  | .hbm, ⟨5, _⟩ => ⟨S3x1024, .f32⟩
  | .hbm, ⟨6, _⟩ => ⟨S3x1x1024, .f32⟩
  | .hbm, ⟨7, _⟩ => ⟨S1x1x1024, .f32⟩
  | .hbm, ⟨8, _⟩ => ⟨S1x1024, .f32⟩
  | .hbm, ⟨9, _⟩ => ⟨S4x2x1024x5632, .bf16⟩
  | .hbm, ⟨10, _⟩ => ⟨S4x2x2816x1024, .bf16⟩
  | .hbm, ⟨11, _⟩ => ⟨S1x1x1024, .f32⟩
  | .hbm, ⟨12, _⟩ => ⟨S1x1024, .f32⟩
  | .hbm, ⟨13, _⟩ => ⟨S32768x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S1x1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1x1024x5632, .f32⟩
  | .hbm, ⟨23, _⟩ => ⟨S1024x5632, .f32⟩
  | .hbm, ⟨24, _⟩ => ⟨S1x1x2816x1024, .f32⟩
  | .hbm, ⟨25, _⟩ => ⟨S2816x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S1x1x1024, .f32⟩
  | .hbm, ⟨45, _⟩ => ⟨S1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Kernel6.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S1024x1024 : Shape := ⟨2, ![1024, 1024]⟩
abbrev S1x1x1024x5632 : Shape := ⟨4, ![1, 1, 1024, 5632]⟩
abbrev S1x1x2816x1024 : Shape := ⟨4, ![1, 1, 2816, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 14
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S1x3x1024, .f32⟩
  | .hbm, ⟨5, _⟩ => ⟨S3x1024, .f32⟩
  | .hbm, ⟨6, _⟩ => ⟨S3x1x1024, .f32⟩
  | .hbm, ⟨7, _⟩ => ⟨S1x1x1024, .f32⟩
  | .hbm, ⟨8, _⟩ => ⟨S1x1024, .f32⟩
  | .hbm, ⟨9, _⟩ => ⟨S4x2x1024x5632, .bf16⟩
  | .hbm, ⟨10, _⟩ => ⟨S4x2x2816x1024, .bf16⟩
  | .hbm, ⟨11, _⟩ => ⟨S1x1x1024, .f32⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x5632, .bf16⟩
  | .local _ .vmem, ⟨4, _⟩ => ⟨S1x1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x1024 : Shape := ⟨2, ![32768, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S4x2x1024x5632, .f32⟩
  | .hbm, ⟨3, _⟩ => ⟨S4x2x2816x1024, .f32⟩
  | .hbm, ⟨4, _⟩ => ⟨S1x1x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1x1024x5632, .f32⟩
  | .hbm, ⟨23, _⟩ => ⟨S1024x5632, .f32⟩
  | .hbm, ⟨24, _⟩ => ⟨S1x1x2816x1024, .f32⟩
  | .hbm, ⟨25, _⟩ => ⟨S2816x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel7.lean ====
abbrev S32768x1024 : Shape := ⟨2, ![32768, 1024]⟩
abbrev S4x3x1024 : Shape := ⟨3, ![4, 3, 1024]⟩
abbrev S2x1024x2816 : Shape := ⟨3, ![2, 1024, 2816]⟩
abbrev S1x3x1024 : Shape := ⟨3, ![1, 3, 1024]⟩
abbrev S3x1024 : Shape := ⟨2, ![3, 1024]⟩
abbrev S3x1x1024 : Shape := ⟨3, ![3, 1, 1024]⟩
abbrev S1x1x1024 : Shape := ⟨3, ![1, 1, 1024]⟩
abbrev S1x1024 : Shape := ⟨2, ![1, 1024]⟩
abbrev S1x1024x2816 : Shape := ⟨3, ![1, 1024, 2816]⟩
abbrev S1024x2816 : Shape := ⟨2, ![1024, 2816]⟩
abbrev S22x32768x128 : Shape := ⟨3, ![22, 32768, 128]⟩
abbrev S1024x1024 : Shape := ⟨2, ![1024, 1024]⟩
abbrev S22x1024x128 : Shape := ⟨3, ![22, 1024, 128]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 12
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S2x1024x2816, .f32⟩
  | .hbm, ⟨3, _⟩ => ⟨S1x3x1024, .f32⟩
  | .hbm, ⟨4, _⟩ => ⟨S3x1024, .f32⟩
  | .hbm, ⟨5, _⟩ => ⟨S3x1x1024, .f32⟩
  | .hbm, ⟨6, _⟩ => ⟨S1x1x1024, .f32⟩
  | .hbm, ⟨7, _⟩ => ⟨S1x1024, .f32⟩
  | .hbm, ⟨8, _⟩ => ⟨S2x1024x2816, .bf16⟩
  | .hbm, ⟨9, _⟩ => ⟨S1x1024x2816, .bf16⟩
  | .hbm, ⟨10, _⟩ => ⟨S1024x2816, .bf16⟩
  | .hbm, ⟨11, _⟩ => ⟨S22x32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S22x1024x128, .f32⟩
  | .local _ .vmem, ⟨5, _⟩ => ⟨S22x1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S22x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S32768x1024 : Shape := ⟨2, ![32768, 1024]⟩
abbrev S4x3x1024 : Shape := ⟨3, ![4, 3, 1024]⟩
abbrev S2x1024x2816 : Shape := ⟨3, ![2, 1024, 2816]⟩
abbrev S1x1x1024 : Shape := ⟨3, ![1, 1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x2816 : Shape := ⟨3, ![1, 1024, 2816]⟩
abbrev S1024x2816 : Shape := ⟨2, ![1024, 2816]⟩
abbrev S32768x2816 : Shape := ⟨2, ![32768, 2816]⟩
abbrev S32768x22x128 : Shape := ⟨3, ![32768, 22, 128]⟩
abbrev S22x32768x128 : Shape := ⟨3, ![22, 32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x3x1024, .f32⟩
  | .hbm, ⟨2, _⟩ => ⟨S2x1024x2816, .f32⟩
  | .hbm, ⟨3, _⟩ => ⟨S1x1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x2816, .f32⟩
  | .hbm, ⟨22, _⟩ => ⟨S1024x2816, .f32⟩
  | .hbm, ⟨23, _⟩ => ⟨S32768x2816, .f32⟩
  | .hbm, ⟨24, _⟩ => ⟨S32768x22x128, .f32⟩
  | .hbm, ⟨25, _⟩ => ⟨S22x32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel8.lean ====
abbrev S32768x1024 : Shape := ⟨2, ![32768, 1024]⟩
abbrev S64x256x128 : Shape := ⟨3, ![64, 256, 128]⟩
abbrev S8x8x16x16x128 : Shape := ⟨5, ![8, 8, 16, 16, 128]⟩
abbrev S8x16x8x16x128 : Shape := ⟨5, ![8, 16, 8, 16, 128]⟩
abbrev S8x2048x128 : Shape := ⟨3, ![8, 2048, 128]⟩
abbrev S2048x64x128 : Shape := ⟨3, ![2048, 64, 128]⟩
abbrev S16384x128 : Shape := ⟨2, ![16384, 128]⟩
abbrev S1x2048x128 : Shape := ⟨3, ![1, 2048, 128]⟩
abbrev S1024x8x128 : Shape := ⟨3, ![1024, 8, 128]⟩
abbrev S2048x1024 : Shape := ⟨2, ![2048, 1024]⟩
abbrev S2048x128 : Shape := ⟨2, ![2048, 128]⟩
abbrev S1024x128 : Shape := ⟨2, ![1024, 128]⟩
abbrev S1024x2048 : Shape := ⟨2, ![1024, 2048]⟩
abbrev S1024x1024 : Shape := ⟨2, ![1024, 1024]⟩
abbrev S1024x1x128 : Shape := ⟨3, ![1024, 1, 128]⟩

abbrev nBuf : Space → Nat
  | .hbm => 7
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S64x256x128, .f32⟩
  | .hbm, ⟨2, _⟩ => ⟨S64x256x128, .bf16⟩
  | .hbm, ⟨3, _⟩ => ⟨S8x8x16x16x128, .bf16⟩
  | .hbm, ⟨4, _⟩ => ⟨S8x16x8x16x128, .bf16⟩
  | .hbm, ⟨5, _⟩ => ⟨S8x2048x128, .bf16⟩
  | .hbm, ⟨6, _⟩ => ⟨S2048x64x128, .f32⟩
  | .local _ .vmem, ⟨0, _⟩ => ⟨S16384x128, .f32⟩
  | .local _ .vmem, ⟨1, _⟩ => ⟨S16384x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1024x8x128, .f32⟩
  | .local _ .vmem, ⟨5, _⟩ => ⟨S1024x8x128, .f32⟩
  | .local _ .vmem, ⟨6, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S32768x1024 : Shape := ⟨2, ![32768, 1024]⟩
abbrev S64x256x128 : Shape := ⟨3, ![64, 256, 128]⟩
abbrev S2048x16x64x16 : Shape := ⟨4, ![2048, 16, 64, 16]⟩
abbrev S64x16x16x128 : Shape := ⟨4, ![64, 16, 16, 128]⟩
abbrev S64x128x2048 : Shape := ⟨3, ![64, 128, 2048]⟩
abbrev S2048x64x128 : Shape := ⟨3, ![2048, 64, 128]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x256x128, .f32⟩
  | .hbm, ⟨2, _⟩ => ⟨S2048x16x64x16, .f32⟩
  | .hbm, ⟨3, _⟩ => ⟨S64x16x16x128, .f32⟩
  | .hbm, ⟨4, _⟩ => ⟨S64x128x2048, .f32⟩
  | .hbm, ⟨5, _⟩ => ⟨S2048x64x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Attention.Pieces.lean ====
/-
  What one grid point of the attention kernel leaves in its output block: sixteen query blocks of 128 rows, every one
  computed by the same function of its queries, its 256 keys and values, its bias rows and the sinks (`blockOut`).
-/
module

public import proofs.«01_k».proof.Proof.Gen.KernelIdeal.Value
public import Idealize.ShloMosaic.Lib.Pointwise
public import Idealize.ShloMosaic.Lib.Pipeline.ValueKit.Tiles

@[expose] public section

set_option maxRecDepth 16384

noncomputable section

namespace Cert.KernelIdeal.Attention

open Idealize.ShloMosaic Idealize.ShloMosaic.TcCoe Idealize.ShloMosaic.Tactic
open Cert.KernelIdeal.Gen

variable {F : FTy → Type} [FloatOps F]

/-- The number of the 64-lane head a lane of the 256 output lanes belongs to. -/
def lanes : IVec S128x256 32 :=
  k0_pay7 (iota .tc S128x256 32 [1] iota_S128x256_d1_w32) 64#32 k0_pay5 k0_pay6 1#32 0#32

/-- The sink of query head `4 * hk + d`, read from scalar memory. -/
def sinkAt (i : grid0.Coords) (x0 : Vec F S1x8 .f32) (d : Fin 4) : Elt F .f32 :=
  View.ld x0 (Rect.unit (s := S1x8) (k0_off1 i (BitVec.ofNat 32 d.val)) S1x1.size (k0_off1_inb i d)) (Shape.Idx.first (show 0 < S1x1.numel by decide))

/-- The column of sinks: row `128 * g + r` holds the sink of the `g`-th query head of the group. -/
def sinkCol (i : grid0.Coords) (x0 : Vec F S1x8 .f32) : FVec F S512x1 .f32 :=
  k0_pay12 k0_pay8 (k0_pay9 (F := F)) k0_pay10 (k0_pay11 (sinkAt i x0 0)) (sinkAt i x0 1) (sinkAt i x0 2) (sinkAt i x0 3)

/-- The window of keys: the 128 rows before the tile, then the 2048 rows of the tile, this head's 64 lanes four times. -/
def keys (i : grid0.Coords) (x3 : Vec F S1x2048x128 .f32) (x4 : Vec F S1x128x128 .f32) : FVec F S2176x256 .bf16 :=
  k0_pay2 i x4 x3

/-- The window of values, laid out as the keys are. -/
def vals (i : grid0.Coords) (x5 : Vec F S1x2048x128 .f32) (x6 : Vec F S1x128x128 .f32) : FVec F S2176x256 .bf16 :=
  k0_pay4 (BitVec.ofNat 32 (i 1).val) (k0_pay3 x6) x5

/-- The scaled queries of one block, spread over four row groups: group `g` keeps the lanes of head `g` alone. -/
def spread (ln : IVec S128x256 32) (A B : Vec F S1x128x128 .f32) : FVec F S512x256 .bf16 :=
  have q := mulf (concatenate S128x256 1 [⟨S128x128, shapeCast S128x128 A shapeCasts_S1x128x128_S128x128⟩,
    ⟨S128x128, shapeCast S128x128 B shapeCasts_S1x128x128_S128x128⟩] concatenates_S128x128_S128x128_S128x256_d1)
    (broadcast S128x256 (Scalar.ofBits .f32 0x3E000000#32 : F .f32))
  have z : FVec F S128x256 .f32 := broadcast S128x256 (Scalar.ofBits .f32 0x00000000#32 : F .f32)
  truncf .bf16 (concatenate S512x256 0
    [⟨S128x256, select (cmpi .eq ln (broadcast S128x256 0#32)) q z⟩,
     ⟨S128x256, select (cmpi .eq ln (broadcast S128x256 1#32)) q z⟩,
     ⟨S128x256, select (cmpi .eq ln (broadcast S128x256 2#32)) q z⟩,
     ⟨S128x256, select (cmpi .eq ln (broadcast S128x256 3#32)) q z⟩]
    concatenates_S128x256_S128x256_S128x256_S128x256_S512x256_d0) bitsLt_bf16_f32

/-- The biased scores of one block against 256 key rows. -/
def scores (ln : IVec S128x256 32) (A B : Vec F S1x128x128 .f32) (kb : FVec F S256x256 .bf16) (bias : FVec F S512x256 .f32) :
    FVec F S512x256 .f32 :=
  addf (matmul dot_S512x256_S256x256_S512x256_1_1_0_0_n_n none (spread ln A B) kb (constant S512x256 .f32 0x00000000#32)) bias

/-- The softmax of the scores with the sink as one more entry of the denominator, applied to the values. -/
def attend (snk : FVec F S512x1 .f32) (s : FVec F S512x256 .f32) (vb : FVec F S256x256 .bf16) : FVec F S512x256 .f32 :=
  divf (matmul dot_S512x256_S256x256_S512x256_1_0_0_1_n_n none (k0_pay58 snk s) vb (constant S512x256 .f32 0x00000000#32))
    (broadcastTo S512x256 (k0_pay57 snk s) broadcasts_S512x1_S512x256)

/-- The four row groups brought back side by side, each with the lanes of its own head. -/
def gather (ln : IVec S128x256 32) (o : FVec F S512x256 .f32) : FVec F S128x256 .bf16 := k0_pay136 ln o

/-- The 256 rows of a window from row `o` on. -/
def rowsAt (o : Nat) (ho : o ≤ 1920) (w : FVec F S2176x256 .bf16) : FVec F S256x256 .bf16 :=
  extractStridedSlice S256x256 ![o, 0] w ⟨rfl, fun a => match a with
    | ⟨0, _⟩ => by show o + 256 ≤ 2176; omega
    | ⟨1, _⟩ => by show 0 + 256 ≤ 256; omega⟩

/-- The 128 query rows from row `o` on, of the first or the second half of the lanes. -/
def slabAt (p : Fin 2) (o : Nat) (ho : o ≤ 1920) (x2 : Vec F S2x2048x128 .f32) : Vec F S1x128x128 .f32 :=
  View.ld x2 (Rect.unit (s := S2x2048x128) ![p.val, o, 0] ![1, 128, 128] fun a => match a with
    | ⟨0, _⟩ => by show p.val + 1 ≤ 2; omega
    | ⟨1, _⟩ => by show o + 128 ≤ 2048; omega
    | ⟨2, _⟩ => by show 0 + 128 ≤ 128; omega)

/-- The bias of the blocks that have keys before them. -/
def biasRest (x1 : Vec F S2x1x512x256 .f32) : FVec F S512x256 .f32 :=
  k0_pay13 (View.ld x1 (Rect.unit (s := S2x1x512x256) ![1, 0, 0, 0] ![1, 1, 512, 256] inb_S2x1x512x256_S1x1x512x256_1_0_0_0))

/-- The bias of the tile's first block: at the sequence's first tile the table that also hides the rows before it. -/
def biasFirst (i : grid0.Coords) (x1 : Vec F S2x1x512x256 .f32) : FVec F S512x256 .f32 :=
  Scalar.select (Scalar.cmpi .eq (BitVec.ofNat 32 (i 2).val) 0#32)
    (shapeCast S512x256 (View.ld x1 (Rect.unit (s := S2x1x512x256) ![0, 0, 0, 0] ![1, 1, 512, 256]
      inb_S2x1x512x256_S1x1x512x256_0_0_0_0)) shapeCasts_S1x1x512x256_S512x256) (biasRest x1)

/-- The output of the query block whose first row is `o`, from the sinks' column, the windows of keys and values, the
    block's bias and the tile's queries. -/
def blockOut (ln : IVec S128x256 32) (snk : FVec F S512x1 .f32) (K W : FVec F S2176x256 .bf16) (bias : FVec F S512x256 .f32)
    (x2 : Vec F S2x2048x128 .f32) (o : Nat) (ho : o ≤ 1920) : FVec F S128x256 .bf16 :=
  gather ln (attend snk (scores ln (slabAt 0 o ho x2) (slabAt 1 o ho x2) (rowsAt o ho K) bias) (rowsAt o ho W))

/-- The bias of the block whose first row is `o`. -/
def biasAt (first rest : FVec F S512x256 .f32) (o : Nat) : FVec F S512x256 .f32 :=
  if o = 0 then first else rest

/-- The whole output block of a grid point, row by row. -/
def tileOut (ln : IVec S128x256 32) (snk : FVec F S512x1 .f32) (K W : FVec F S2176x256 .bf16)
    (first rest : FVec F S512x256 .f32) (x2 : Vec F S2x2048x128 .f32) (y : S2048x256.Idx) : F .bf16 :=
  have h : (y 0).val < 2048 := (y 0).isLt
  blockOut ln snk K W (biasAt first rest (128 * ((y 0).val / 128))) x2 (128 * ((y 0).val / 128)) (by omega)
    (ix2 ⟨(y 0).val % 128, by omega⟩ (y 1))

/-- The block stored at row `o` is that part of `tileOut`. -/
theorem piece_eq (ln : IVec S128x256 32) (snk : FVec F S512x1 .f32) (K W : FVec F S2176x256 .bf16)
    (first rest : FVec F S512x256 .f32) (x2 : Vec F S2x2048x128 .f32)
    (o : Nat) (ho : o ≤ 1920) (hd : o % 128 = 0) (bias : FVec F S512x256 .f32) (hb : bias = biasAt first rest o)
    (inb : ∀ a, (![o, 0] : Fin 2 → Nat) a + (![128, 256] : Fin 2 → Nat) a ≤ S2048x256.size a)
    (x : (Rect.unit (s := S2048x256) ![o, 0] ![128, 256] inb).shape.Idx) :
    blockOut ln snk K W bias x2 o ho x
      = tileOut ln snk K W first rest x2 ((Rect.unit (s := S2048x256) ![o, 0] ![128, 256] inb).emb x) := by
  subst hb
  have hx0 : (x 0).val < 128 := (x 0).isLt
  have e0 : (((Rect.unit (s := S2048x256) ![o, 0] ![128, 256] inb).emb x) 0).val = o + (x 0).val := by
    show o + 1 * (x 0).val = _; omega
  have e1 : (((Rect.unit (s := S2048x256) ![o, 0] ![128, 256] inb).emb x) 1).val = (x 1).val := by
    show 0 + 1 * (x 1).val = _; omega
  unfold tileOut
  have hq : 128 * ((((Rect.unit (s := S2048x256) ![o, 0] ![128, 256] inb).emb x) 0).val / 128) = o := by rw [e0]; omega
  have hr : (((Rect.unit (s := S2048x256) ![o, 0] ![128, 256] inb).emb x) 0).val % 128 = (x 0).val := by rw [e0]; omega
  simp only [hq]
  refine congrArg _ (funext fun a => ?_)
  match a with
  | ⟨0, _⟩ => exact Fin.ext hr.symm
  | ⟨1, _⟩ => exact Fin.ext e1.symm

set_option maxHeartbeats 4000000 in
/-- What the grid point leaves in its output block is `tileOut` of its input blocks. -/
theorem out_eq (c : Dev nD) (i : grid0.Coords) (arg3 : Memref sig .tc .smem S1x8 .f32) (harg3 : arg3.IsWhole)
    (arg4 : Memref sig .tc .vmem S2x1x512x256 .f32) (harg4 : arg4.IsWhole)
    (arg5 : Memref sig .tc .vmem S2x2048x128 .f32) (harg5 : arg5.IsWhole)
    (arg6 : Memref sig .tc .vmem S1x2048x128 .f32) (harg6 : arg6.IsWhole)
    (arg7 : Memref sig .tc .vmem S1x128x128 .f32) (harg7 : arg7.IsWhole)
    (arg8 : Memref sig .tc .vmem S1x2048x128 .f32) (harg8 : arg8.IsWhole)
    (arg9 : Memref sig .tc .vmem S1x128x128 .f32) (harg9 : arg9.IsWhole)
    (arg10 : Memref sig .tc .vmem S2048x256 .bf16) (harg10 : arg10.IsWhole)
    (x0 : Vec F S1x8 .f32) (x1 : Vec F S2x1x512x256 .f32) (x2 : Vec F S2x2048x128 .f32) (x3 : Vec F S1x2048x128 .f32)
    (x4 : Vec F S1x128x128 .f32) (x5 : Vec F S1x2048x128 .f32) (x6 : Vec F S1x128x128 .f32) :
    out0_A_7 c i arg3 harg3 arg4 harg4 arg5 harg5 arg6 harg6 arg7 harg7 arg8 harg8 arg9 harg9 arg10 harg10 x0 x1 x2 x3 x4 x5 x6
      = tileOut lanes (sinkCol i x0) (keys i x3 x4) (vals i x5 x6) (biasFirst i x1) (biasRest x1) x2 := by
  funext y
  unfold out0_A_7
  rw [View.read_writes_eq_canon _ _ _ (cover0_A_7 c i arg3 harg3 arg4 harg4 arg5 harg5 arg6 harg6 arg7 harg7 arg8 harg8
    arg9 harg9 arg10 harg10 x0 x1 x2 x3 x4 x5 x6)]
  refine View.canon_apply_of_pieces _ _ ?_ y (cover0_A_7 c i arg3 harg3 arg4 harg4 arg5 harg5 arg6 harg6 arg7 harg7 arg8 harg8
    arg9 harg9 arg10 harg10 x0 x1 x2 x3 x4 x5 x6 y)
  unfold kernelRun0_A; dsimp only
  sl_unfold_words
  simp only [View.readAt_eq_ld, harg3.read_unread, harg4.read_unread, harg5.read_unread, harg6.read_unread,
    harg7.read_unread, harg8.read_unread, harg9.read_unread]
  have h3 : View.ld x3 (Rect.unit (s := S1x2048x128) ![0, 0, 0] ![1, 2048, 128] inb_S1x2048x128_S1x2048x128_0_0_0) = x3 :=
    View.ld_unit_lit (S := S1x2048x128) _ x3 (by decide)
  have h4 : View.ld x4 (Rect.unit (s := S1x128x128) ![0, 0, 0] ![1, 128, 128] inb_S1x128x128_S1x128x128_0_0_0) = x4 :=
    View.ld_unit_lit (S := S1x128x128) _ x4 (by decide)
  have h5 : View.ld x5 (Rect.unit (s := S1x2048x128) ![0, 0, 0] ![1, 2048, 128] inb_S1x2048x128_S1x2048x128_0_0_0) = x5 :=
    View.ld_unit_lit (S := S1x2048x128) _ x5 (by decide)
  have h6 : View.ld x6 (Rect.unit (s := S1x128x128) ![0, 0, 0] ![1, 128, 128] inb_S1x128x128_S1x128x128_0_0_0) = x6 :=
    View.ld_unit_lit (S := S1x128x128) _ x6 (by decide)
  rw [h3, h4, h5, h6]
  generalize hl : k0_pay7 (iota Kind.tc S128x256 32 [1] iota_S128x256_d1_w32) 64#32 k0_pay5 k0_pay6 1#32 0#32 = ln
  generalize hs : k0_pay12 k0_pay8 (k0_pay9 (F := F)) k0_pay10 _ _ _ _ = snk
  generalize hK : k0_pay2 i x4 x3 = K
  generalize hW : k0_pay4 _ (k0_pay3 x6) x5 = W
  generalize hr : k0_pay13 (F := F) _ = rest
  obtain rfl : lanes = ln := hl
  obtain rfl : sinkCol i x0 = snk := hs
  obtain rfl : keys i x3 x4 = K := hK
  obtain rfl : vals i x5 x6 = W := hW
  obtain rfl : biasRest x1 = rest := hr
  have hf : biasFirst i x1 = Scalar.select (Scalar.cmpi .eq (BitVec.ofNat 32 (i 2).val) 0#32)
    (shapeCast S512x256 (View.ld x1 (Rect.unit (s := S2x1x512x256) ![0, 0, 0, 0] ![1, 1, 512, 256]
      inb_S2x1x512x256_S1x1x512x256_0_0_0_0)) shapeCasts_S1x1x512x256_S512x256) (biasRest x1) := rfl
  generalize lanes = ln
  generalize sinkCol i x0 = snk
  generalize keys i x3 x4 = K
  generalize vals i x5 x6 = W
  generalize biasFirst i x1 = first at *
  generalize biasRest x1 = rest at *
  simp only [List.forall_mem_cons, List.not_mem_nil, false_imp_iff, implies_true, and_true]
  have hp := fun o ho hd bias hb inb x => piece_eq ln snk K W first rest x2 o ho hd bias hb inb x
  refine ⟨?_, ?_, ?_, ?_, ?_, ?_, ?_, ?_, ?_, ?_, ?_, ?_, ?_, ?_, ?_, ?_⟩ <;> intro x
  · exact Eq.trans (congrFun rfl x) (hp 1920 (by omega) rfl rest rfl _ x)
  · exact Eq.trans (congrFun rfl x) (hp 1792 (by omega) rfl rest rfl _ x)
  · exact Eq.trans (congrFun rfl x) (hp 1664 (by omega) rfl rest rfl _ x)
  · exact Eq.trans (congrFun rfl x) (hp 1536 (by omega) rfl rest rfl _ x)
  · exact Eq.trans (congrFun rfl x) (hp 1408 (by omega) rfl rest rfl _ x)
  · exact Eq.trans (congrFun rfl x) (hp 1280 (by omega) rfl rest rfl _ x)
  · exact Eq.trans (congrFun rfl x) (hp 1152 (by omega) rfl rest rfl _ x)
  · exact Eq.trans (congrFun rfl x) (hp 1024 (by omega) rfl rest rfl _ x)
  · exact Eq.trans (congrFun rfl x) (hp 896 (by omega) rfl rest rfl _ x)
  · exact Eq.trans (congrFun rfl x) (hp 768 (by omega) rfl rest rfl _ x)
  · exact Eq.trans (congrFun rfl x) (hp 640 (by omega) rfl rest rfl _ x)
  · exact Eq.trans (congrFun rfl x) (hp 512 (by omega) rfl rest rfl _ x)
  · exact Eq.trans (congrFun rfl x) (hp 384 (by omega) rfl rest rfl _ x)
  · exact Eq.trans (congrFun rfl x) (hp 256 (by omega) rfl rest rfl _ x)
  · exact Eq.trans (congrFun rfl x) (hp 128 (by omega) rfl rest rfl _ x)
  · subst hf
    exact Eq.trans (congrFun rfl x) (hp 0 (by omega) rfl _ rfl _ x)

end Cert.KernelIdeal.Attention
-- ==== Proof.Attention.Softmax.lean ====
/-
  A row of sliding-window attention over the extended reals: the softmax of 256 scores with a sink as one more entry of
  the denominator, applied to 256 values. Dividing every weight first, or the weighted sum last, gives one number as
  soon as no score is `+∞` and the sink is finite; and a score of `-∞` hides its value.
-/
module

public import Idealize.ShloMosaic.Lib.Pointwise

@[expose] public section

noncomputable section

namespace Cert.Attention

open Idealize.ShloMosaic

variable {n : Nat}

/-- The largest score, the sink included. -/
def rowMax (S : Fin n → EReal) (t : EReal) : EReal := max (Finset.univ.fold max ⊥ S) t

/-- The exponential of a score, relative to the largest. -/
def weight (S : Fin n → EReal) (t : EReal) (k : Fin n) : EReal := Ideal.exp (S k - rowMax S t)

/-- The softmax's denominator: all weights and the sink's. -/
def denom (S : Fin n → EReal) (t : EReal) : EReal := (∑ k, weight S t k) + Ideal.exp (t - rowMax S t)

/-- The row, with the division after the weighted sum. -/
def attnRow (S : Fin n → EReal) (t : EReal) (V : Fin n → EReal) : EReal :=
  Ideal.div (∑ k, weight S t k * V k) (denom S t)

theorem fold_max_ne_top (S : Fin n → EReal) (hS : ∀ k, S k ≠ ⊤) (s : Finset (Fin n)) : s.fold max ⊥ S ≠ ⊤ := by
  induction s using Finset.induction_on with
  | empty => simp
  | insert a s ha ih =>
    rw [Finset.fold_insert ha]
    intro h
    rcases max_choice (S a) (s.fold max ⊥ S) with e | e
    · exact hS a (e.symm.trans h)
    · exact ih (e.symm.trans h)

/-- With a finite sink and no score at `+∞` the largest is a real number. -/
theorem exists_rowMax (S : Fin n → EReal) (t : ℝ) (hS : ∀ k, S k ≠ ⊤) : ∃ M : ℝ, rowMax S t = M := by
  have h1 : rowMax S t ≠ ⊤ := by
    intro h
    rcases max_choice (Finset.univ.fold max ⊥ S) (t : EReal) with e | e
    · exact fold_max_ne_top S hS _ (e.symm.trans h)
    · exact EReal.coe_ne_top t (e.symm.trans h)
  have h2 : rowMax S t ≠ ⊥ := by
    intro h
    have : (t : EReal) ≤ rowMax S t := le_max_right _ _
    rw [h] at this
    exact EReal.coe_ne_bot t (le_bot_iff.mp this)
  exact ⟨(rowMax S t).toReal, (EReal.coe_toReal h1 h2).symm⟩

theorem exists_weight (S : Fin n → EReal) (t : ℝ) (hS : ∀ k, S k ≠ ⊤) (k : Fin n) : ∃ p : ℝ, 0 ≤ p ∧ weight S t k = p := by
  obtain ⟨M, hM⟩ := exists_rowMax S t hS
  unfold weight
  rw [hM]
  induction h : S k with
  | bot => exact ⟨0, le_refl 0, by rw [EReal.bot_sub]; rfl⟩
  | coe r => exact ⟨Real.exp (r - M), (Real.exp_pos _).le, by rw [← EReal.coe_sub]; rfl⟩
  | top => exact absurd h (hS k)

theorem exists_denom (S : Fin n → EReal) (t : ℝ) (hS : ∀ k, S k ≠ ⊤) : ∃ d : ℝ, 0 < d ∧ denom S t = d := by
  obtain ⟨M, hM⟩ := exists_rowMax S t hS
  choose p hp0 hp using exists_weight S t hS
  refine ⟨(∑ k, p k) + Real.exp (t - M), add_pos_of_nonneg_of_pos (Finset.sum_nonneg fun k _ => hp0 k) (Real.exp_pos _), ?_⟩
  unfold denom
  rw [hM, ← EReal.coe_sub, EReal.coe_add]
  congr 1
  rw [Finset.sum_congr rfl fun k _ => hp k]
  exact (map_sum (⟨⟨((↑) : ℝ → EReal), EReal.coe_zero⟩, EReal.coe_add⟩ : ℝ →+ EReal) p Finset.univ).symm

/-- A finite non-negative factor goes through a sum. -/
theorem sum_mul_coe (x : Fin n → EReal) (e : ℝ) (he : 0 ≤ e) (s : Finset (Fin n)) :
    (∑ k ∈ s, x k) * (e : EReal) = ∑ k ∈ s, x k * (e : EReal) := by
  induction s using Finset.induction_on with
  | empty => simp
  | insert a s ha ih =>
    rw [Finset.sum_insert ha, Finset.sum_insert ha, ← ih]
    exact EReal.right_distrib_of_nonneg_of_ne_top (EReal.coe_nonneg.mpr he) (EReal.coe_ne_top e) _ _

/-- Dividing every weight, or dividing the weighted sum: the same row. -/
theorem sum_div_eq_attnRow (S : Fin n → EReal) (t : ℝ) (V : Fin n → EReal) (hS : ∀ k, S k ≠ ⊤) :
    ∑ k, Ideal.div (weight S t k) (denom S t) * V k = attnRow S t V := by
  obtain ⟨d, hd, e⟩ := exists_denom S t hS
  unfold attnRow
  rw [e]
  have h0 : (d : EReal) ≠ 0 := by exact_mod_cast hd.ne'
  have hdiv : ∀ x : EReal, Ideal.div x d = x * ((d⁻¹ : ℝ) : EReal) := fun x => by
    unfold Ideal.div
    rw [if_neg h0, EReal.coe_inv]
  rw [hdiv, sum_mul_coe _ _ (inv_nonneg.mpr hd.le)]
  refine Finset.sum_congr rfl fun k _ => ?_
  rw [hdiv, mul_assoc, mul_comm ((d⁻¹ : ℝ) : EReal), ← mul_assoc]

/-- A value whose score is `-∞` does not enter the row. -/
theorem attnRow_congr (S : Fin n → EReal) (t : ℝ) (V W : Fin n → EReal) (hS : ∀ k, S k ≠ ⊤)
    (h : ∀ k, S k ≠ ⊥ → V k = W k) : attnRow S t V = attnRow S t W := by
  obtain ⟨M, hM⟩ := exists_rowMax S t hS
  unfold attnRow
  congr 1
  refine Finset.sum_congr rfl fun k _ => ?_
  by_cases hk : S k = ⊥
  · have : weight S t k = 0 := by unfold weight; rw [hk, EReal.bot_sub]; rfl
    rw [this, zero_mul, zero_mul]
  · rw [h k hk]

end Cert.Attention
-- ==== Proof.Attention.Block.lean ====
/-
  One query block of the attention kernel, read at an index.
-/
module

public import proofs.«01_k».proof.Proof.Attention.Pieces
public import proofs.«01_k».proof.Proof.Attention.Softmax
public import Idealize.ShloMosaic.Lib.WordCmp

@[expose] public section

set_option maxRecDepth 16384

noncomputable section

namespace Cert.KernelIdeal.Attention

open Idealize.ShloMosaic Idealize.ShloMosaic.TcCoe Idealize.ShloMosaic.Tactic
open Cert.KernelIdeal.Gen Cert.Attention

/-- The word arithmetic of `n // 64`: the head a lane belongs to. -/
theorem head_word : ∀ n < 256,
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi ArithUnit.vector (BitVec.ofNat 32 n) 64#32) 0#32))
      (IntOp.subi (IntOp.divsi ArithUnit.vector (BitVec.ofNat 32 n) 64#32) 1#32)
      (IntOp.divsi ArithUnit.vector (BitVec.ofNat 32 n) 64#32) = BitVec.ofNat 32 (n / 64) := by
  decide +kernel

/-- Choosing by equality of two small words. -/
theorem select_word {α : Type} (a b : Nat) (ha : a < 8) (hb : b < 8) (x y : α) :
    Scalar.select (IntOp.cmpi .eq (BitVec.ofNat 32 a) (BitVec.ofNat 32 b)) x y = if a = b then x else y := by
  have h : ∀ a < 8, ∀ b < 8, IntOp.cmpi .eq (BitVec.ofNat 32 a) (BitVec.ofNat 32 b) = if a = b then 1#1 else 0#1 := by
    decide
  rw [h a ha b hb]
  by_cases e : a = b
  · rw [if_pos e, if_pos e]; rfl
  · rw [if_neg e, if_neg e]; rfl

/-- Lane `c` belongs to head `c / 64`. -/
theorem lanes_apply (r : Fin 128) (c : Fin 256) : lanes (ix2 r c) = BitVec.ofNat 32 (c.val / 64) := by
  pointwise [lanes, k0_pay5, k0_pay6, k0_pay7]
  exact head_word c c.isLt

/-- Row `R` of the spread block belongs to head `R / 128`. -/
theorem rowHead_apply (R : Fin 512) : k0_pay8 (ix2 R 0) = BitVec.ofNat 32 (R.val / 128) := by
  pointwise [k0_pay8]
  revert R; decide +kernel

/-- The word of `-∞` is `-∞`. -/
theorem negInf : Ideal.ofBits FTy.f32 4286578688#32 = ⊥ := by
  simp [Ideal.ofBits, Ideal.ieee]

/-- The attended block at row `R` and lane `c` is the attention row of `R`'s scores and lane `c`'s values. -/
theorem attend_apply (snk : FVec Ideal S512x1 .f32) (s : FVec Ideal S512x256 .f32) (vb : FVec Ideal S256x256 .bf16)
    (R : Fin 512) (c : Fin 256) :
    attend snk s vb (ix2 R c) = attnRow (fun k : Fin 256 => s (ix2 R k)) (snk (ix2 R 0)) (fun k : Fin 256 => vb (ix2 k c)) := by
  pointwise [attend, k0_pay58, k0_pay57, k0_pay56, k0_pay55]
  rw [negInf]
  rfl

/-- A biased score is a sum of 256 products and its bias. -/
theorem scores_apply (ln : IVec S128x256 32) (A B : Vec Ideal S1x128x128 .f32) (kb : FVec Ideal S256x256 .bf16)
    (bias : FVec Ideal S512x256 .f32) (R : Fin 512) (k : Fin 256) :
    scores ln A B kb bias (ix2 R k) = (∑ c : Fin 256, spread ln A B (ix2 R c) * kb (ix2 k c)) + bias (ix2 R k) := by
  pointwise [scores]

/-- Gathering takes lane `c` of row `r` from the row group of `c`'s head. -/
theorem gather_apply (o : FVec Ideal S512x256 .f32) (r : Fin 128) (c : Fin 256) (g : Fin 4) (hg : c.val / 64 = g.val) :
    gather lanes o (ix2 r c) = o (ix2 ⟨128 * g.val + r.val, by omega⟩ c) := by
  pointwise [gather, k0_pay136]
  rw [lanes_apply, hg]
  have h := g.isLt
  rw [select_word g 0 (by omega) (by omega), select_word g 1 (by omega) (by omega), select_word g 2 (by omega) (by omega)]
  have hr : ∀ m (hm : m = 128 * g.val + r.val), o (ix2 ⟨m, by omega⟩ c) = o (ix2 ⟨128 * g.val + r.val, by omega⟩ c) :=
    fun m hm => by subst hm; rfl
  match g, hr with
  | 0, hr => exact (if_pos rfl).trans (hr r.val (Nat.zero_add _).symm)
  | 1, hr => exact (if_neg (by decide)).trans ((if_pos rfl).trans (hr (128 + r.val) rfl))
  | 2, hr => exact (if_neg (by decide)).trans ((if_neg (by decide)).trans ((if_pos rfl).trans (hr (256 + r.val) rfl)))
  | 3, hr => exact (if_neg (by decide)).trans ((if_neg (by decide)).trans ((if_neg (by decide)).trans (hr (384 + r.val) rfl)))

/-- Lane `c` of query row `r`, out of the two halves. -/
def query (A B : Vec Ideal S1x128x128 .f32) (r : Fin 128) (c : Fin 256) : EReal :=
  if h : c.val < 128 then A (ix3 0 r ⟨c.val, h⟩) else B (ix3 0 r ⟨c.val - 128, by omega⟩)

/-- The scale `1 / 8` as the program holds it. -/
def eighth : EReal := Ideal.ofBits FTy.f32 1040187392#32

/-- It is a non-negative real number. -/
theorem exists_eighth : ∃ e : ℝ, 0 ≤ e ∧ eighth = e :=
  ⟨8388608 * (1 / 67108864), by norm_num, by
    unfold eighth; rw [EReal.coe_mul]; simp [Ideal.ofBits, Ideal.ieee]; norm_num⟩

/-- Row `r` of row group `g` keeps head `g`'s lanes, scaled; its other lanes are zero. -/
theorem spread_apply (A B : Vec Ideal S1x128x128 .f32) (g : Fin 4) (r : Fin 128) (R : Fin 512) (hR : R.val = 128 * g.val + r.val)
    (c : Fin 256) :
    spread lanes A B (ix2 R c) = if c.val / 64 = g.val then query A B r c * eighth else 0 := by
  pointwise [spread]
  have hc : c.val / 64 < 4 := by omega
  match g, hR with
  | 0, hR =>
    replace hR : R.val = r.val := by simpa using hR
    rw [dif_pos (by omega), lanes_apply, select_word _ 0 (by omega) (by omega)]
    simp only [hR]; rfl
  | 1, hR =>
    replace hR : R.val = 128 + r.val := by simpa using hR
    have e : R.val - 128 = r.val := by omega
    rw [dif_neg (by omega), dif_pos (by omega), lanes_apply, select_word _ 1 (by omega) (by omega)]
    simp only [e]; rfl
  | 2, hR =>
    replace hR : R.val = 256 + r.val := by simpa using hR
    have e : R.val - 128 - 128 = r.val := by omega
    rw [dif_neg (by omega), dif_neg (by omega), dif_pos (by omega), lanes_apply, select_word _ 2 (by omega) (by omega)]
    simp only [e]; rfl
  | 3, hR =>
    replace hR : R.val = 384 + r.val := by simpa using hR
    have e : R.val - 128 - 128 - 128 = r.val := by omega
    rw [dif_neg (by omega), dif_neg (by omega), dif_neg (by omega), lanes_apply, select_word _ 3 (by omega) (by omega)]
    simp only [e]; rfl

/-- Row `j` of the window: 128 rows before the tile, then the tile's. -/
def window (x3 : Vec Ideal S1x2048x128 .f32) (x4 : Vec Ideal S1x128x128 .f32) (j : Fin 2176) (l : Fin 128) : EReal :=
  if h : j.val < 128 then x4 (ix3 0 ⟨j.val, h⟩ l) else x3 (ix3 0 ⟨j.val - 128, by omega⟩ l)

/-- Choosing the lane itself, or the lane 64 further on, by the lane's head. -/
theorem window_lane (x3 : Vec Ideal S1x2048x128 .f32) (x4 : Vec Ideal S1x128x128 .f32) (j : Fin 2176) (n : Nat) (hn : n < 128)
    (hk : Fin 2) (l : Fin 128) (hl : l.val = 64 * hk.val + n % 64) (m : Fin 128) (hm : m.val = (n + 128 - 64) % 128) :
    Scalar.select (IntOp.cmpi .eq (BitVec.ofNat 32 (n / 64)) (BitVec.ofNat 32 hk.val)) (window x3 x4 j ⟨n, hn⟩) (window x3 x4 j m)
      = window x3 x4 j l := by
  rw [select_word _ _ (by omega) (by omega)]
  split
  · exact congrArg _ (Fin.ext (show n = l.val by omega))
  · exact congrArg _ (Fin.ext (by omega))

/-- The window of keys at row `j` and lane `c`: this head's lane `c % 64`. -/
theorem keys_apply (i : grid0.Coords) (x3 : Vec Ideal S1x2048x128 .f32) (x4 : Vec Ideal S1x128x128 .f32)
    (j : Fin 2176) (c : Fin 256) (hk : Fin 2) (hi : (i 1).val = hk.val) (l : Fin 128) (hl : l.val = 64 * hk.val + c.val % 64) :
    keys i x3 x4 (ix2 j c) = window x3 x4 j l := by
  pointwise [keys, k0_pay2]
  rw [hi]
  split
  · rw [head_word _ (by omega)]
    exact window_lane x3 x4 j c (by omega) hk l hl ⟨_, by omega⟩ rfl
  · rw [head_word _ (by omega)]
    exact window_lane x3 x4 j (c - 128) (by omega) hk l (by omega) ⟨_, by omega⟩ rfl

/-- The window of values, likewise. -/
theorem vals_apply (i : grid0.Coords) (x5 : Vec Ideal S1x2048x128 .f32) (x6 : Vec Ideal S1x128x128 .f32)
    (j : Fin 2176) (c : Fin 256) (hk : Fin 2) (hi : (i 1).val = hk.val) (l : Fin 128) (hl : l.val = 64 * hk.val + c.val % 64) :
    vals i x5 x6 (ix2 j c) = window x5 x6 j l := by
  pointwise [vals, k0_pay3, k0_pay4]
  rw [hi]
  split
  · rw [head_word _ (by omega)]
    exact window_lane x5 x6 j c (by omega) hk l hl ⟨_, by omega⟩ rfl
  · rw [head_word _ (by omega)]
    exact window_lane x5 x6 j (c - 128) (by omega) hk l (by omega) ⟨_, by omega⟩ rfl

/-- The sink read for the `d`-th query head of key head `hk`. -/
theorem sinkAt_apply (i : grid0.Coords) (x0 : Vec Ideal S1x8 .f32) (d : Fin 4) (hk : Fin 2) (hi : (i 1).val = hk.val) :
    sinkAt i x0 d = x0 (ix2 0 ⟨4 * hk.val + d.val, by omega⟩) := by
  unfold sinkAt
  refine View.ld_unit_apply_of x0 _ _ _ _ _ fun a => ?_
  match a with
  | ⟨0, _⟩ => rfl
  | ⟨1, _⟩ =>
    show 4 * hk.val + d.val = (Scalar.addi (Scalar.muli (BitVec.ofNat 32 (i 1).val) 4#32) (BitVec.ofNat 32 d.val)).toNat + 0
    rw [hi]
    clear hi
    revert hk d; decide

/-- The sinks' column at row `R` of row group `g`. -/
theorem sinkCol_apply (i : grid0.Coords) (x0 : Vec Ideal S1x8 .f32) (hk : Fin 2) (hi : (i 1).val = hk.val) (g : Fin 4)
    (R : Fin 512) (hR : R.val / 128 = g.val) :
    sinkCol i x0 (ix2 R 0) = x0 (ix2 0 ⟨4 * hk.val + g.val, by omega⟩) := by
  pointwise [sinkCol, k0_pay9, k0_pay10, k0_pay11, k0_pay12]
  rw [rowHead_apply, hR]
  have h := g.isLt
  rw [select_word g 0 (by omega) (by omega), select_word g 1 (by omega) (by omega), select_word g 2 (by omega) (by omega),
    select_word g 3 (by omega) (by omega)]
  rw [← sinkAt_apply i x0 g hk hi]
  match g, hR with
  | 0, _ => rfl
  | 1, _ => rfl
  | 2, _ => rfl
  | 3, _ => rfl

end Cert.KernelIdeal.Attention
-- ==== Proof.Attention.Tile.lean ====
/-
  The output block of one grid point, at an index: one attention row over the tile's blocks.
-/
module

public import proofs.«01_k».proof.Proof.Attention.Block

@[expose] public section

set_option maxRecDepth 16384

noncomputable section

namespace Cert.KernelIdeal.Attention

open Idealize.ShloMosaic Idealize.ShloMosaic.TcCoe Idealize.ShloMosaic.Tactic
open Cert.KernelIdeal.Gen Cert.Attention

/-- A sum over 256 lanes of which only one head's 64 count. -/
theorem sum_head (g : Fin 4) (f h : Fin 256 → EReal) :
    ∑ c : Fin 256, (if c.val / 64 = g.val then f c else 0) * h c
      = ∑ d : Fin 64, f ⟨64 * g.val + d.val, by omega⟩ * h ⟨64 * g.val + d.val, by omega⟩ := by
  rw [← (finProdFinEquiv (m := 4) (n := 64)).sum_comp, Fintype.sum_prod_type, Finset.sum_eq_single g]
  · refine Finset.sum_congr rfl fun d _ => ?_
    have e : (finProdFinEquiv (m := 4) (n := 64) (g, d) : Fin 256) = ⟨64 * g.val + d.val, by omega⟩ :=
      Fin.ext (by show d.val + 64 * g.val = 64 * g.val + d.val; omega)
    rw [e, if_pos (by show (64 * g.val + d.val) / 64 = g.val; omega)]
  · intro g' _ hg
    refine Finset.sum_eq_zero fun d _ => ?_
    have e : (finProdFinEquiv (m := 4) (n := 64) (g', d) : Fin 256).val = d.val + 64 * g'.val := rfl
    have : g'.val ≠ g.val := fun h => hg (Fin.ext h)
    rw [if_neg (by rw [e]; omega), zero_mul]
  · intro h; exact absurd (Finset.mem_univ g) h

/-- A slab's row is the tile's row. -/
theorem slabAt_apply (p : Fin 2) (o : Nat) (ho : o ≤ 1920) (x2 : Vec Ideal S2x2048x128 .f32) (r l : Fin 128) :
    slabAt p o ho x2 (ix3 0 r l) = x2 (ix3 p ⟨o + r.val, by omega⟩ l) := by
  refine View.ld_unit_apply_of x2 _ _ _ _ _ fun a => ?_
  match a with
  | ⟨0, _⟩ => rfl
  | ⟨1, _⟩ => rfl
  | ⟨2, _⟩ => exact (Nat.zero_add _).symm

theorem rowsAt_apply (o : Nat) (ho : o ≤ 1920) (w : FVec Ideal S2176x256 .bf16) (k c : Fin 256) :
    rowsAt o ho w (ix2 k c) = w (ix2 ⟨o + k.val, by omega⟩ c) := by
  refine extractStridedSlice_apply _ _ _ _ _ fun a => ?_
  match a with
  | ⟨0, _⟩ => rfl
  | ⟨1, _⟩ => exact (Nat.zero_add _).symm

theorem query_slab (o : Nat) (ho : o ≤ 1920) (x2 : Vec Ideal S2x2048x128 .f32) (r : Fin 128) (c : Fin 256) :
    query (slabAt 0 o ho x2) (slabAt 1 o ho x2) r c
      = x2 (ix3 ⟨c.val / 128, by omega⟩ ⟨o + r.val, by omega⟩ ⟨c.val % 128, by omega⟩) := by
  have hx : ∀ (p p' : Fin 2) (l l' : Fin 128), p = p' → l = l' →
      x2 (ix3 p ⟨o + r.val, by omega⟩ l) = x2 (ix3 p' ⟨o + r.val, by omega⟩ l') := fun p p' l l' h h' => by rw [h, h']
  unfold query
  split
  · rw [slabAt_apply]
    exact hx _ _ _ _ (Fin.ext (by show 0 = c.val / 128; omega)) (Fin.ext (by show c.val = c.val % 128; omega))
  · rw [slabAt_apply]
    exact hx _ _ _ _ (Fin.ext (by show 1 = c.val / 128; omega)) (Fin.ext (by show c.val - 128 = c.val % 128; omega))

/-- The biased score of row `row` against the window's row `k` after the block's first, for lane `col`'s head. -/
def score (hk : Fin 2) (x2 : Vec Ideal S2x2048x128 .f32) (x3 : Vec Ideal S1x2048x128 .f32) (x4 : Vec Ideal S1x128x128 .f32)
    (bias : FVec Ideal S512x256 .f32) (row : Fin 2048) (g : Fin 4) (k : Fin 256) : EReal :=
  (∑ d : Fin 64, x2 (ix3 ⟨(64 * g.val + d.val) / 128, by omega⟩ row ⟨(64 * g.val + d.val) % 128, by omega⟩) * eighth
      * window x3 x4 ⟨128 * (row.val / 128) + k.val, by omega⟩ ⟨64 * hk.val + d.val, by omega⟩)
    + bias (ix2 ⟨128 * g.val + row.val % 128, by omega⟩ k)

/-- The output block at row `row` and lane `col`. -/
theorem tileOut_apply (i : grid0.Coords) (hk : Fin 2) (hi : (i 1).val = hk.val)
    (x0 : Vec Ideal S1x8 .f32) (first rest : FVec Ideal S512x256 .f32) (x2 : Vec Ideal S2x2048x128 .f32)
    (x3 : Vec Ideal S1x2048x128 .f32) (x4 : Vec Ideal S1x128x128 .f32) (x5 : Vec Ideal S1x2048x128 .f32)
    (x6 : Vec Ideal S1x128x128 .f32) (row : Fin 2048) (col : Fin 256) (g : Fin 4) (hg : col.val / 64 = g.val) :
    tileOut lanes (sinkCol i x0) (keys i x3 x4) (vals i x5 x6) first rest x2 (ix2 row col)
      = attnRow (score hk x2 x3 x4 (biasAt first rest (128 * (row.val / 128))) row g)
          (x0 (ix2 0 ⟨4 * hk.val + g.val, by omega⟩))
          (fun k : Fin 256 => window x5 x6 ⟨128 * (row.val / 128) + k.val, by omega⟩ ⟨64 * hk.val + col.val % 64, by omega⟩) := by
  show gather lanes _ (ix2 ⟨row.val % 128, _⟩ col) = _
  rw [gather_apply _ _ col g hg, attend_apply, sinkCol_apply i x0 hk hi g _ (by show (128 * g.val + row.val % 128) / 128 = _; omega)]
  have e1 : (fun k : Fin 256 => rowsAt (128 * (row.val / 128)) (by omega) (vals i x5 x6) (ix2 k col))
      = fun k : Fin 256 => window x5 x6 ⟨128 * (row.val / 128) + k.val, by omega⟩ ⟨64 * hk.val + col.val % 64, by omega⟩ := by
    funext k
    rw [rowsAt_apply, vals_apply i x5 x6 _ col hk hi ⟨64 * hk.val + col.val % 64, by omega⟩ rfl]
  have e2 : (fun k : Fin 256 => scores lanes (slabAt 0 (128 * (row.val / 128)) (by omega) x2)
        (slabAt 1 (128 * (row.val / 128)) (by omega) x2) (rowsAt (128 * (row.val / 128)) (by omega) (keys i x3 x4))
        (biasAt first rest (128 * (row.val / 128))) (ix2 ⟨128 * g.val + row.val % 128, by omega⟩ k))
      = score hk x2 x3 x4 (biasAt first rest (128 * (row.val / 128))) row g := by
    funext k
    rw [scores_apply]
    unfold score
    congr 1
    rw [Finset.sum_congr rfl fun c _ => by rw [spread_apply _ _ g ⟨row.val % 128, by omega⟩ _ rfl c], sum_head]
    refine Finset.sum_congr rfl fun d _ => ?_
    rw [query_slab, rowsAt_apply, keys_apply i x3 x4 _ _ hk hi ⟨64 * hk.val + d.val, by omega⟩
      (by show 64 * hk.val + d.val = 64 * hk.val + (64 * g.val + d.val) % 64; omega)]
    have : (⟨128 * (row.val / 128) + row.val % 128, by omega⟩ : Fin 2048) = row := Fin.ext (by show 128 * (row.val / 128) + row.val % 128 = row.val; omega)
    rw [this]
  exact (congrArg₂ (fun S V => attnRow S (x0 (ix2 0 ⟨4 * hk.val + g.val, by omega⟩)) V) e2 e1)

end Cert.KernelIdeal.Attention
-- ==== Proof.Attention.Array.lean ====
/-
  The attention kernel's whole output array, entry by entry, from the arrays it is launched on.
-/
module

public import proofs.«01_k».proof.Proof.Attention.Tile
public import Idealize.ShloMosaic.Lib.Pipeline.ValueKit

@[expose] public section

set_option maxRecDepth 16384

noncomputable section

namespace Cert.KernelIdeal.Attention

open Idealize.ShloMosaic Idealize.ShloMosaic.TcCoe Idealize.ShloMosaic.Tactic
open Idealize.ShloMosaic.Pipeline (Dat Cfg Window)
open Cert.KernelIdeal.Gen Cert.Attention

/-- The row of the key (and value) that is the `k`-th of the 256 that row `R` is attended with: the 128 rows of the block
    before `R`'s and the 128 of its own (before a sequence's first block, rows that the bias hides). -/
def src (R : Fin 32768) (k : Fin 256) : Fin 32768 :=
  ⟨if R.val % 8192 / 128 = 0 ∧ k.val < 128 then R.val / 128 * 128 + k.val else R.val / 128 * 128 + k.val - 128, by
    split <;> omega⟩

/-- A biased score, as the kernel computes it. -/
def kScore (A : S22x32768x128.Idx → EReal) (B : S2x2x512x256.Idx → EReal) (R : Fin 32768) (hk : Fin 2) (g : Fin 4)
    (k : Fin 256) : EReal :=
  (∑ d : Fin 64, A (ix3 ⟨(256 * hk.val + 64 * g.val + d.val) / 128, by omega⟩ R ⟨(64 * g.val + d.val) % 128, by omega⟩) * eighth
      * A (ix3 4 (src R k) ⟨64 * hk.val + d.val, by omega⟩))
    + B (ix4 (if R.val % 8192 / 128 = 0 then 0 else 1) hk ⟨128 * g.val + R.val % 128, by omega⟩ k)

/-- The output at row `R`, head `(hk, g)` and lane `l`. -/
def kRow (A : S22x32768x128.Idx → EReal) (B : S2x2x512x256.Idx → EReal) (s : S1x8.Idx → EReal) (R : Fin 32768)
    (hk : Fin 2) (g : Fin 4) (l : Fin 64) : EReal :=
  attnRow (kScore A B R hk g) (s (ix2 0 ⟨4 * hk.val + g.val, by omega⟩))
    (fun k => A (ix3 5 (src R k) ⟨64 * hk.val + l.val, by omega⟩))

/-- The output array. -/
def kOut (A : S22x32768x128.Idx → EReal) (B : S2x2x512x256.Idx → EReal) (s : S1x8.Idx → EReal) (y : S32768x512.Idx) : EReal :=
  have h : (y 1).val < 512 := (y 1).isLt
  kRow A B s (y 0) ⟨(y 1).val / 256, by omega⟩ ⟨(y 1).val % 256 / 64, by omega⟩ ⟨(y 1).val % 64, by omega⟩

theorem index0 : ∀ t : Fin grid0.N, win0_0.index t = ![0, 0] := by decide +kernel
theorem index1 : ∀ t : Fin grid0.N, win0_1.index t = ![0, (grid0.coords t 1).val, 0, 0] := by decide +kernel
theorem index2 : ∀ t : Fin grid0.N,
    win0_2.index t = ![(grid0.coords t 1).val, 4 * (grid0.coords t 0).val + (grid0.coords t 2).val, 0] := by decide +kernel
theorem index3 : ∀ t : Fin grid0.N, win0_3.index t = ![4, 4 * (grid0.coords t 0).val + (grid0.coords t 2).val, 0] := by
  decide +kernel
theorem index4 : ∀ t : Fin grid0.N,
    win0_4.index t = ![4, 64 * (grid0.coords t 0).val + (16 * (grid0.coords t 2).val - 1), 0] := by decide +kernel
theorem index5 : ∀ t : Fin grid0.N, win0_5.index t = ![5, 4 * (grid0.coords t 0).val + (grid0.coords t 2).val, 0] := by
  decide +kernel
theorem index6 : ∀ t : Fin grid0.N,
    win0_6.index t = ![5, 64 * (grid0.coords t 0).val + (16 * (grid0.coords t 2).val - 1), 0] := by decide +kernel
theorem index7 : ∀ t : Fin grid0.N,
    win0_7.index t = ![4 * (grid0.coords t 0).val + (grid0.coords t 2).val, (grid0.coords t 1).val] := by decide +kernel

variable (m : (ℓ : Loc nD τ sig) → Buf (Elt Ideal) ℓ)

/-- A window row of the blocks of keys is a row of the array. -/
theorem window_keys (c : Dev nD) (t : Fin grid0.N) (A : S22x32768x128.Idx → EReal) (hA : V m c main_arg0 = A)
    (row : Fin 2048) (R : Fin 32768)
    (hR : R.val = 2048 * (4 * (grid0.coords t 0).val + (grid0.coords t 2).val) + row.val) (k : Fin 256) (l : Fin 128) :
    window (iblk m c 3 t) (iblk m c 4 t) ⟨128 * (row.val / 128) + k.val, by omega⟩ l = A (ix3 4 (src R k) l) := by
  have h0 : (grid0.coords t 0).val < 4 := (grid0.coords t 0).isLt
  have h2 : (grid0.coords t 2).val < 4 := (grid0.coords t 2).isLt
  subst hA
  unfold window
  split
  · rename_i h; replace h : 128 * (row.val / 128) + k.val < 128 := h
    blk_ext [iblk, index4 t]
    simp only [src]; split <;> omega
  · rename_i h; replace h : ¬ 128 * (row.val / 128) + k.val < 128 := h
    blk_ext [iblk, index3 t]
    simp only [src]; split <;> omega

/-- A window row of the blocks of values is a row of the array. -/
theorem window_vals (c : Dev nD) (t : Fin grid0.N) (A : S22x32768x128.Idx → EReal) (hA : V m c main_arg0 = A)
    (row : Fin 2048) (R : Fin 32768)
    (hR : R.val = 2048 * (4 * (grid0.coords t 0).val + (grid0.coords t 2).val) + row.val) (k : Fin 256) (l : Fin 128) :
    window (iblk m c 5 t) (iblk m c 6 t) ⟨128 * (row.val / 128) + k.val, by omega⟩ l = A (ix3 5 (src R k) l) := by
  have h0 : (grid0.coords t 0).val < 4 := (grid0.coords t 0).isLt
  have h2 : (grid0.coords t 2).val < 4 := (grid0.coords t 2).isLt
  subst hA
  unfold window
  split
  · rename_i h; replace h : 128 * (row.val / 128) + k.val < 128 := h
    blk_ext [iblk, index6 t]
    simp only [src]; split <;> omega
  · rename_i h; replace h : ¬ 128 * (row.val / 128) + k.val < 128 := h
    blk_ext [iblk, index5 t]
    simp only [src]; split <;> omega

/-- A lane of the tile's queries is an entry of the array. -/
theorem queries (c : Dev nD) (t : Fin grid0.N) (A : S22x32768x128.Idx → EReal) (hA : V m c main_arg0 = A)
    (row : Fin 2048) (R : Fin 32768) (hk : Fin 2) (hi : (grid0.coords t 1).val = hk.val)
    (hR : R.val = 2048 * (4 * (grid0.coords t 0).val + (grid0.coords t 2).val) + row.val) (g : Fin 4) (d : Fin 64) :
    (iblk m c 2 t : Vec Ideal S2x2048x128 .f32)
        (ix3 ⟨(64 * g.val + d.val) / 128, by omega⟩ row ⟨(64 * g.val + d.val) % 128, by omega⟩)
      = A (ix3 ⟨(256 * hk.val + 64 * g.val + d.val) / 128, by omega⟩ R ⟨(64 * g.val + d.val) % 128, by omega⟩) := by
  subst hA
  blk_ext [iblk, index2 t]

/-- The bias rows of the block that row `R` is in. -/
theorem bias (c : Dev nD) (t : Fin grid0.N) (B : S2x2x512x256.Idx → EReal) (hB : V m c main_v40 = B)
    (row : Fin 2048) (R : Fin 32768) (hk : Fin 2) (hi : (grid0.coords t 1).val = hk.val)
    (hR : R.val = 2048 * (4 * (grid0.coords t 0).val + (grid0.coords t 2).val) + row.val) (q : Fin 512) (k : Fin 256) :
    biasAt (biasFirst (grid0.coords t) (iblk m c 1 t)) (biasRest (iblk m c 1 t)) (128 * (row.val / 128)) (ix2 q k)
      = B (ix4 (if R.val % 8192 / 128 = 0 then 0 else 1) hk q k) := by
  have h0 : (grid0.coords t 0).val < 4 := (grid0.coords t 0).isLt
  have h2 : (grid0.coords t 2).val < 4 := (grid0.coords t 2).isLt
  subst hB
  unfold biasAt
  have er : biasRest (F := Ideal) (iblk m c 1 t) (ix2 q k) = V m c main_v40 (ix4 1 hk q k) := by
    pointwise [biasRest, k0_pay13]
    blk_ext [iblk, index1 t]
  have ef : k0_pay13 (F := Ideal) (View.ld (iblk m c 1 t) (Rect.unit (s := S2x1x512x256) ![0, 0, 0, 0] ![1, 1, 512, 256]
      inb_S2x1x512x256_S1x1x512x256_0_0_0_0)) (ix2 q k) = V m c main_v40 (ix4 0 hk q k) := by
    pointwise [k0_pay13]
    blk_ext [iblk, index1 t]
  split
  · unfold biasFirst
    refine (congrFun (select_word (α := FVec Ideal S512x256 .f32) (grid0.coords t 2).val 0 (by omega) (by omega) _ _)
      (ix2 q k)).trans ?_
    split
    · rw [if_pos (by omega)]; exact ef
    · rw [if_neg (by omega)]; exact er
  · rw [if_neg (by omega)]; exact er

/-- The sinks, as the kernel's block of them. -/
theorem sinks (c : Dev nD) (t : Fin grid0.N) (s : S1x8.Idx → EReal) (hs : V m c main_v41 = s) (h : Fin 8) :
    (iblk m c 0 t : Vec Ideal S1x8 .f32) (ix2 0 h) = s (ix2 0 h) := by
  subst hs
  blk_ext [iblk, index0 t]

/-- A biased score of the block is one of the array. -/
theorem score_eq (c : Dev nD) (t : Fin grid0.N) (A : S22x32768x128.Idx → EReal) (hA : V m c main_arg0 = A)
    (B : S2x2x512x256.Idx → EReal) (hB : V m c main_v40 = B) (row : Fin 2048) (R : Fin 32768) (hk : Fin 2)
    (hi : (grid0.coords t 1).val = hk.val)
    (hR : R.val = 2048 * (4 * (grid0.coords t 0).val + (grid0.coords t 2).val) + row.val) (g : Fin 4) (k : Fin 256) :
    score hk (iblk m c 2 t) (iblk m c 3 t) (iblk m c 4 t) (biasAt (biasFirst (grid0.coords t) (iblk m c 1 t))
      (biasRest (iblk m c 1 t)) (128 * (row.val / 128))) row g k = kScore A B R hk g k := by
  have e1 := bias m c t B hB row R hk hi hR ⟨128 * g.val + row.val % 128, by omega⟩ k
  have er : (⟨128 * g.val + row.val % 128, by omega⟩ : Fin 512) = ⟨128 * g.val + R.val % 128, by omega⟩ :=
    Fin.ext (show 128 * g.val + row.val % 128 = 128 * g.val + R.val % 128 by omega)
  rw [er] at e1
  refine congrArg₂ (fun a b : EReal => a + b) (Finset.sum_congr rfl fun d _ => ?_) ((congrArg _ (by rw [er])).trans e1)
  exact congr (congrArg HMul.hMul (congrArg (· * eighth) (queries m c t A hA row R hk hi hR g d)))
    (window_keys m c t A hA row R hR k _)

/-- The output array is `kOut` of the arrays at the launch. -/
theorem arr_eq (c : Dev nD) :
    (dats m 0 c).arrAt 7 cfg0.N = kOut (V m c main_arg0) (V m c main_v40) (V m c main_v41) := by
  refine (dats m 0 c).arrAt_eq_of_covers 7 _ (by decide +kernel) fun t hf y => ?_
  blk_simp
  rw [after0_7]
  have h0 : (grid0.coords t 0).val < 4 := (grid0.coords t 0).isLt
  have h1 : (grid0.coords t 1).val < 2 := (grid0.coords t 1).isLt
  have h2 : (grid0.coords t 2).val < 4 := (grid0.coords t 2).isLt
  obtain ⟨row, col, rfl⟩ : ∃ (row : Fin 2048) (col : Fin 256), y = ix2 row col := ⟨y 0, y 1, eq_ix2 y⟩
  have e : (win0_7.blk t).view.emb (ix2 row col)
      = (ix2 ⟨2048 * (4 * (grid0.coords t 0).val + (grid0.coords t 2).val) + row.val, by omega⟩
          ⟨256 * (grid0.coords t 1).val + col.val, by omega⟩ : S32768x512.Idx) := by
    blk_ext [index7 t]
  rw [e]
  unfold outsAt0
  rw [out_eq]
  have hg : col.val / 64 < 4 := by omega
  obtain ⟨hk, hi⟩ : ∃ hk : Fin 2, (grid0.coords t 1).val = hk.val := ⟨⟨_, h1⟩, rfl⟩
  rw [tileOut_apply _ hk hi (iblk m c 0 t) _ _ _ _ _ _ _ row col ⟨col.val / 64, hg⟩ rfl]
  generalize hA : V m c main_arg0 = A
  generalize hB : V m c main_v40 = B
  generalize hs : V m c main_v41 = s
  obtain ⟨R, hR⟩ : ∃ R : Fin 32768, R.val = 2048 * (4 * (grid0.coords t 0).val + (grid0.coords t 2).val) + row.val :=
    ⟨⟨_, by omega⟩, rfl⟩
  have eR : (⟨2048 * (4 * (grid0.coords t 0).val + (grid0.coords t 2).val) + row.val, by omega⟩ : Fin 32768) = R :=
    Fin.ext hR.symm
  rw [eR]
  have ey : kOut A B s (ix2 R ⟨256 * (grid0.coords t 1).val + col.val, by omega⟩)
      = kRow A B s R hk ⟨col.val / 64, hg⟩ ⟨col.val % 64, by omega⟩ := by
    show kRow A B s R ⟨(256 * (grid0.coords t 1).val + col.val) / 256, _⟩
      ⟨(256 * (grid0.coords t 1).val + col.val) % 256 / 64, _⟩ ⟨(256 * (grid0.coords t 1).val + col.val) % 64, _⟩ = _
    congr 1 <;> apply Fin.ext <;> dsimp only <;> omega
  rw [ey]
  unfold kRow
  have e1 : (fun k : Fin 256 => window (iblk m c 5 t) (iblk m c 6 t) ⟨128 * (row.val / 128) + k.val, by omega⟩
      ⟨64 * hk.val + col.val % 64, by omega⟩) = fun k => A (ix3 5 (src R k) ⟨64 * hk.val + col.val % 64, by omega⟩) :=
    funext fun k => window_vals m c t A hA row R hR k _
  have e2 := funext fun k => score_eq m c t A hA B hB row R hk hi hR ⟨col.val / 64, hg⟩ k
  have e3 := sinks m c t s hs ⟨4 * hk.val + col.val / 64, by omega⟩
  exact congr (congr (congrArg attnRow e2) e3) e1

end Cert.KernelIdeal.Attention
-- ==== Proof.Attention.Mask.lean ====
/-
  The words and numbers that both programs compute from positions alone: the sliding window's band and the linear bias.
-/
module

public import Idealize.ShloMosaic.PureOps
public import proofs.«01_k».proof.Proof.Attention.Softmax

@[expose] public section

noncomputable section

namespace Cert.Attention

open Idealize.ShloMosaic

/-- Key `k` of the window is at most 127 rows before query `q`, and not after it. -/
def band (q k : Nat) : BitVec 1 :=
  IntOp.andi
    (IntOp.cmpi .sge (IntOp.subi (IntOp.addi (BitVec.ofNat 32 q) 128#32) (BitVec.ofNat 32 k)) 0#32)
    (IntOp.cmpi .slt (IntOp.subi (IntOp.addi (BitVec.ofNat 32 q) 128#32) (BitVec.ofNat 32 k)) 128#32)

/-- Key `k` of the window belongs to the query's own block. -/
def own (k : Nat) : BitVec 1 := IntOp.cmpi .sge (BitVec.ofNat 32 k) 128#32

/-- The distance of key `k` of the window from query `q`. -/
def distOf (q k : Nat) : EReal :=
  FloatOps.sitofp (F := Ideal) .f32 (IntOp.subi (IntOp.addi (BitVec.ofNat 32 q) 128#32) (BitVec.ofNat 32 k))

/-- The slopeOf of head `h`'s bias. -/
def slopeOf (h : Nat) : EReal :=
  Ideal.div 1 (FloatOps.sitofp (F := Ideal) .f32 (IntOp.shli .host 1#32 (IntOp.addi 1#32 (BitVec.ofNat 32 h))))

/-- The word of minus infinity. -/
theorem negInf : Ideal.ofBits FTy.f32 4286578688#32 = ⊥ := by
  simp [Ideal.ofBits, Ideal.ieee]

/-- The word of zero. -/
theorem zeroWord : Ideal.ofBits FTy.f32 0#32 = 0 := by
  simp [Ideal.ofBits, Ideal.ieee]

theorem own_eq : ∀ k < 256, own k = if k < 128 then 0#1 else 1#1 := by decide +kernel

theorem exists_dist (q k : Nat) : ∃ x : ℝ, distOf q k = x := ⟨_, rfl⟩

theorem shift_toInt : ∀ h < 8, (IntOp.shli .host 1#32 (IntOp.addi 1#32 (BitVec.ofNat 32 h))).toInt ≠ 0 := by decide +kernel

theorem exists_slope (h : Nat) (hh : h < 8) : ∃ x : ℝ, slopeOf h = x := by
  have e : FloatOps.sitofp (F := Ideal) .f32 (IntOp.shli .host 1#32 (IntOp.addi 1#32 (BitVec.ofNat 32 h)))
      = (((IntOp.shli .host 1#32 (IntOp.addi 1#32 (BitVec.ofNat 32 h))).toInt : ℝ) : EReal) := rfl
  unfold slopeOf
  rw [e]
  unfold Ideal.div
  rw [if_neg (by exact_mod_cast shift_toInt h hh), ← EReal.coe_inv, one_mul]
  exact ⟨_, rfl⟩

end Cert.Attention
-- ==== Proof.Attention.Table.lean ====
/-
  What the attention kernel's launch finds in memory: the queries, keys and values as given, the sinks, and the table of
  biases.
-/
module

public import proofs.«01_k».proof.Proof.Gen.KernelIdeal.Value
public import proofs.«01_k».proof.Proof.Attention.Mask
public import Idealize.ShloMosaic.Lib.Claim
public import Idealize.ShloMosaic.Lib.Pointwise

@[expose] public section

set_option maxRecDepth 16384

noncomputable section

namespace Cert.KernelIdeal.Attention

open Idealize.ShloMosaic Idealize.ShloMosaic.TcCoe Idealize.ShloMosaic.Tactic
open Cert.KernelIdeal.Gen Cert.Attention

variable (m : (ℓ : Loc nD τ sig) → Buf (Elt Ideal) ℓ)

theorem V_arg0 (c : Dev nD) : V m c main_arg0 = m ((c.tc : Thread nD τ).loc main_arg0) := by
  unfold V
  simp only [hostOps0, hostOps0_1, hostOps0_2, hostOps0_3, hostOps0_4, List.flatten_cons, List.flatten_nil, List.cons_append, List.nil_append]
  after_results_simp

theorem V_sinks (c : Dev nD) (h : Fin 8) : V m c main_v41 (ix2 0 h) = m ((c.tc : Thread nD τ).loc main_arg1) (ix1 h) := by
  unfold V
  simp only [hostOps0, hostOps0_1, hostOps0_2, hostOps0_3, hostOps0_4, List.flatten_cons, List.flatten_nil, List.cons_append, List.nil_append]
  after_results_simp
  change shapeCast S1x8 _ _ _ = _
  pointwise []

/-- The distances of the keys from the queries, as the launch's table takes them. -/
def distV : IVec S128x256 32 :=
  subi (broadcastInDim S128x256 ![0, 1] bcast_S128x1_S128x256_0_1 (broadcastInDim S128x1 ![0] bcast_S128_S128x1_0
      (addi (iotaInDim S128 32 0) (broadcastInDim S128 ![] bcast_S_S128 (constantI S_ 32 128#32)))))
    (broadcastInDim S128x256 ![0, 1] bcast_S1x256_S128x256_0_1 (broadcastInDim S1x256 ![1] bcast_S256_S1x256_1 (iotaInDim S256 32 0)))

/-- The band, as the launch's table takes it. -/
def bandV : IVec S128x256 1 :=
  andi (cmpi .sge distV (broadcastInDim S128x256 ![] bcast_S_S128x256 (constantI S_ 32 0#32)))
    (cmpi .slt distV (broadcastInDim S128x256 ![] bcast_S_S128x256 (constantI S_ 32 128#32)))

/-- The band without the keys before the block. -/
def bandFirstV : IVec S128x256 1 :=
  andi bandV (broadcastInDim S128x256 ![0, 1] bcast_S1x256_S128x256_0_1
    (cmpi .sge (broadcastInDim S1x256 ![1] bcast_S256_S1x256_1 (iotaInDim S256 32 0))
      (broadcastInDim S1x256 ![] bcast_S_S1x256 (constantI S_ 32 128#32))))

/-- Minus the slope times the distance. -/
def costV : FVec Ideal S2x4x128x256 .f32 :=
  mulf (broadcastInDim S2x4x128x256 ![0, 1, 2, 3] bcast_S2x4x1x1_S2x4x128x256_0_1_2_3 (Host.negf (shapeCast S2x4x1x1
      (Host.divf (broadcastInDim S8 ![] bcast_S_S8 (constant S_ .f32 0x3F800000#32))
        (sitofp .f32 (Host.shli (broadcastInDim S8 ![] bcast_S_S8 (constantI S_ 32 1#32))
          (addi (broadcastInDim S8 ![] bcast_S_S8 (constantI S_ 32 1#32)) (iotaInDim S8 32 0))))) shapeCasts_S8_S2x4x1x1)))
    (broadcastInDim S2x4x128x256 ![0, 1, 2, 3] bcast_S1x1x128x256_S2x4x128x256_0_1_2_3
      (broadcastInDim S1x1x128x256 ![2, 3] bcast_S128x256_S1x1x128x256_2_3 (sitofp .f32 distV)))

/-- One of the two tables: the cost inside the mask, minus infinity outside. -/
def tableV (mask : IVec S128x256 1) : FVec Ideal S1x2x4x128x256 .f32 :=
  broadcastInDim S1x2x4x128x256 ![1, 2, 3, 4] bcast_S2x4x128x256_S1x2x4x128x256_1_2_3_4
    (select (broadcastInDim S2x4x128x256 ![2, 3] bcast_S128x256_S2x4x128x256_2_3 mask) costV
      (broadcastInDim S2x4x128x256 ![] bcast_S_S2x4x128x256 (constant S_ .f32 0xFF800000#32)))

theorem V_table (c : Dev nD) : V m c main_v40
    = shapeCast S2x2x512x256 (concatenate S2x2x4x128x256 0 [⟨S1x2x4x128x256, tableV bandFirstV⟩, ⟨S1x2x4x128x256, tableV bandV⟩]
        concatenates_S1x2x4x128x256_S1x2x4x128x256_S2x2x4x128x256_d0) shapeCasts_S2x2x4x128x256_S2x2x512x256 := by
  unfold V
  simp only [hostOps0, hostOps0_1, hostOps0_2, hostOps0_3, hostOps0_4, List.flatten_cons, List.flatten_nil, List.cons_append, List.nil_append]
  after_results_simp
  after_results_loop
  rfl

/-- An entry of the table. -/
theorem V_bias (c : Dev nD) (sel hk : Fin 2) (g : Fin 4) (q : Fin 128) (k : Fin 256) :
    V m c main_v40 (ix4 sel hk ⟨128 * g.val + q.val, by omega⟩ k)
      = (if sel.val < 1 then Scalar.select (IntOp.andi (band q k) (own k)) (-slopeOf (hk.val * 4 + g.val) * distOf q k)
            (Ideal.ofBits FTy.f32 4286578688#32)
          else Scalar.select (band q k) (-slopeOf (hk.val * 4 + g.val) * distOf q k) (Ideal.ofBits FTy.f32 4286578688#32) : EReal) := by
  rw [V_table]
  pointwise [tableV, bandV, bandFirstV, costV, distV]
  rfl

end Cert.KernelIdeal.Attention
-- ==== Proof.Attention.Reference.lean ====
/-
  The reference, read entry by entry.
-/
module

public import proofs.«01_k».proof.Proof.Gen.ReferenceIdeal.Read
public import proofs.«01_k».proof.Proof.Attention.Mask
public import Idealize.ShloMosaic.Lib.ValueIdxRank6
public import Idealize.ShloMosaic.Lib.Pointwise

@[expose] public section

set_option maxRecDepth 16384

noncomputable section

namespace Cert.ReferenceIdeal.Attention

open Idealize.ShloMosaic Idealize.ShloMosaic.TcCoe Idealize.ShloMosaic.Tactic
open Cert.ReferenceIdeal.Read Cert.Attention

variable (A : (⟨S22x32768x128, .f32⟩ : BufTy).Contents (Elt Ideal)) (s : (⟨S8, .f32⟩ : BufTy).Contents (Elt Ideal))

theorem query_apply (b : Fin 4) (n : Fin 64) (q : Fin 128) (hk : Fin 2) (g : Fin 4) (d : Fin 64) :
    val_main_v5 (F := Ideal) A (ix6 b n q hk g d)
      = A (ix3 ⟨(256 * hk.val + 64 * g.val + d.val) / 128, by omega⟩ ⟨8192 * b.val + 128 * n.val + q.val, by omega⟩
          ⟨(64 * g.val + d.val) % 128, by omega⟩) := by
  pointwise [val_main_v5, val_main_v2, val_main_v1, val_main_v0]
  refine congrArg A (funext fun a => ?_)
  fin_cases a <;> apply Fin.ext <;> dsimp <;> omega

theorem key_apply (b : Fin 4) (n : Fin 64) (j : Fin 128) (hk : Fin 2) (d : Fin 64) :
    val_main_v6 (F := Ideal) A (ix5 b n j hk d)
      = A (ix3 4 ⟨8192 * b.val + 128 * n.val + j.val, by omega⟩ ⟨64 * hk.val + d.val, by omega⟩) := by
  pointwise [val_main_v6, val_main_v3, val_main_v1, val_main_v0]
  refine congrArg A (funext fun a => ?_)
  fin_cases a <;> apply Fin.ext <;> dsimp <;> omega

theorem val_apply (b : Fin 4) (n : Fin 64) (j : Fin 128) (hk : Fin 2) (d : Fin 64) :
    val_main_v7 (F := Ideal) A (ix5 b n j hk d)
      = A (ix3 5 ⟨8192 * b.val + 128 * n.val + j.val, by omega⟩ ⟨64 * hk.val + d.val, by omega⟩) := by
  pointwise [val_main_v7, val_main_v4, val_main_v1, val_main_v0]
  refine congrArg A (funext fun a => ?_)
  fin_cases a <;> apply Fin.ext <;> dsimp <;> omega

/-- The row of the `k`-th key of block `n` of sequence `b` (a row of the block before, or one of the block itself). -/
def rowOf (b : Fin 4) (n : Fin 64) (k : Fin 256) : Fin 32768 :=
  ⟨if n.val = 0 ∧ k.val < 128 then 8192 * b.val + 128 * n.val + k.val else 8192 * b.val + 128 * n.val + k.val - 128, by
    split <;> omega⟩

theorem keys_join (b : Fin 4) (n : Fin 64) (k : Fin 256) (hk : Fin 2) (d : Fin 64) :
    val_main_v10 (F := Ideal) A (ix5 b n k hk d)
      = if h : k.val < 128 then val_main_v9 (F := Ideal) A (ix5 b n ⟨k.val, h⟩ hk d)
        else val_main_v6 (F := Ideal) A (ix5 b n ⟨k.val - 128, by omega⟩ hk d) := by
  pointwise [val_main_v10]

theorem keys_pad (b : Fin 4) (n : Fin 64) (j : Fin 128) (hk : Fin 2) (d : Fin 64) :
    val_main_v9 (F := Ideal) A (ix5 b n j hk d)
      = if h : 1 ≤ n.val then val_main_v6 (F := Ideal) A (ix5 b ⟨n.val - 1, by omega⟩ j hk d)
        else val_main_call0_v0 (F := Ideal) (Shape.Idx.first Gen.h_S_) := by
  pointwise [val_main_v9, val_main_v8]
  split
  · rw [dif_pos (by omega)]
  · rw [dif_neg (by omega)]

theorem keys_apply (b : Fin 4) (n : Fin 64) (k : Fin 256) (hk : Fin 2) (d : Fin 64) :
    val_main_v10 (F := Ideal) A (ix5 b n k hk d)
      = (if n.val = 0 ∧ k.val < 128 then val_main_call0_v0 (F := Ideal) (Shape.Idx.first Gen.h_S_)
          else A (ix3 4 (rowOf b n k) ⟨64 * hk.val + d.val, by omega⟩) : EReal) := by
  rw [keys_join]
  split
  · rw [keys_pad]
    split
    · rw [if_neg (by omega), key_apply]
      exact congrArg (fun r => A (ix3 4 r _)) (Fin.ext (by simp only [rowOf]; split <;> omega))
    · rw [if_pos (by omega)]
  · rw [if_neg (by omega), key_apply]
    exact congrArg (fun r => A (ix3 4 r _)) (Fin.ext (by simp only [rowOf]; split <;> omega))

theorem vals_join (b : Fin 4) (n : Fin 64) (k : Fin 256) (hk : Fin 2) (d : Fin 64) :
    val_main_v13 (F := Ideal) A (ix5 b n k hk d)
      = if h : k.val < 128 then val_main_v12 (F := Ideal) A (ix5 b n ⟨k.val, h⟩ hk d)
        else val_main_v7 (F := Ideal) A (ix5 b n ⟨k.val - 128, by omega⟩ hk d) := by
  pointwise [val_main_v13]

theorem vals_pad (b : Fin 4) (n : Fin 64) (j : Fin 128) (hk : Fin 2) (d : Fin 64) :
    val_main_v12 (F := Ideal) A (ix5 b n j hk d)
      = if h : 1 ≤ n.val then val_main_v7 (F := Ideal) A (ix5 b ⟨n.val - 1, by omega⟩ j hk d)
        else val_main_call1_v0 (F := Ideal) (Shape.Idx.first Gen.h_S_) := by
  pointwise [val_main_v12, val_main_v11]
  split
  · rw [dif_pos (by omega)]
  · rw [dif_neg (by omega)]

theorem vals_apply (b : Fin 4) (n : Fin 64) (k : Fin 256) (hk : Fin 2) (d : Fin 64) :
    val_main_v13 (F := Ideal) A (ix5 b n k hk d)
      = (if n.val = 0 ∧ k.val < 128 then val_main_call1_v0 (F := Ideal) (Shape.Idx.first Gen.h_S_)
          else A (ix3 5 (rowOf b n k) ⟨64 * hk.val + d.val, by omega⟩) : EReal) := by
  rw [vals_join]
  split
  · rw [vals_pad]
    split
    · rw [if_neg (by omega), val_apply]
      exact congrArg (fun r => A (ix3 5 r _)) (Fin.ext (by simp only [rowOf]; split <;> omega))
    · rw [if_pos (by omega)]
  · rw [if_neg (by omega), val_apply]
    exact congrArg (fun r => A (ix3 5 r _)) (Fin.ext (by simp only [rowOf]; split <;> omega))

/-- The scaled products of a query with the keys of its window. -/
theorem dot_apply (b : Fin 4) (n : Fin 64) (hk : Fin 2) (g : Fin 4) (q : Fin 128) (k : Fin 256) :
    val_main_v14 (F := Ideal) A (ix6 b n hk k q g)
      = ∑ d : Fin 64, val_main_v10 (F := Ideal) A (ix5 b n k hk d) * val_main_v5 (F := Ideal) A (ix6 b n q hk g d) := by
  rw [val_main_v14_apply]
  refine Finset.sum_congr rfl fun d _ => congrArg₂ (fun x y : EReal => x * y) (congrArg _ ?_) (congrArg _ ?_)
  · exact eq_ix5 _
  · exact eq_ix6 _

/-- A masked score. -/
theorem score_apply (b : Fin 4) (n : Fin 64) (hk : Fin 2) (g : Fin 4) (q : Fin 128) (k : Fin 256) :
    val_main_v65 (F := Ideal) A (ix6 b n hk g q k)
      = (Scalar.select (IntOp.andi (band q k) (IntOp.ori (IntOp.cmpi .sgt (BitVec.ofNat 32 n.val) 0#32) (own k)))
          (val_main_v14 (F := Ideal) A (ix6 b n hk k q g) * Ideal.ofBits FTy.f32 1040187392#32
            - slopeOf (hk.val * 4 + g.val) * distOf q k)
          (Ideal.ofBits FTy.f32 4286578688#32) : EReal) := by
  pointwise [val_main_v65, val_main_v63, val_main_call2_v0, val_main_call2_v1, val_main_call2_v2, val_main_cst_9, val_main_v64,
    val_main_v62, val_main_v61, val_main_v60, val_main_v59, val_main_v58, val_main_v57, val_main_v56, val_main_v55, val_main_v54,
    val_main_v53, val_main_cst_8, val_main_v52, val_main_v51, val_main_v50, val_main_c_7, val_main_v49, val_main_v48,
    val_main_c_6, val_main_v47, val_main_v46, val_main_v45, val_main_v44, val_main_v43, val_main_v42, val_main_v41, val_main_v40,
    val_main_v39, val_main_v38, val_main_v37, val_main_c_5, val_main_v36, val_main_v35, val_main_v34, val_main_c_4, val_main_v33,
    val_main_v32, val_main_v31, val_main_v30, val_main_v29, val_main_c_3, val_main_v28, val_main_v27, val_main_c_2, val_main_v26,
    val_main_v25, val_main_v24, val_main_v23, val_main_v22, val_main_v21, val_main_v20, val_main_v19, val_main_c_1, val_main_v18,
    val_main_v17, val_main_v16, val_main_cst, val_main_v15]
  rfl

theorem fiber (j : S4x64x2x4x128.Idx) (i : S4x64x2x4x128x256.Idx) :
    Gen.reducesTo_S4x64x2x4x128x256_S4x64x2x4x128_d5.drop i = j
      ↔ ∃ k : Fin 256, (ix6 (j 0) (j 1) (j 2) (j 3) (j 4) k : S4x64x2x4x128x256.Idx) = i := by
  constructor
  · rintro rfl
    refine ⟨i 5, ?_⟩
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The row of masked scores of one query. -/
def rScore (b : Fin 4) (n : Fin 64) (hk : Fin 2) (g : Fin 4) (q : Fin 128) (k : Fin 256) : EReal :=
  val_main_v65 (F := Ideal) A (ix6 b n hk g q k)

theorem fold_fiber (y : S4x64x2x4x128x256.Idx → EReal) (z : EReal) (j : S4x64x2x4x128.Idx) :
    (Finset.univ.filter fun i => Gen.reducesTo_S4x64x2x4x128x256_S4x64x2x4x128_d5.drop i = j).fold max z y
      = Finset.univ.fold max z (fun k : Fin 256 => y (ix6 (j 0) (j 1) (j 2) (j 3) (j 4) k)) :=
  Finset.fold_filter_eq_fold_of_fiber (max : EReal → EReal → EReal) _
    (fun k : Fin 256 => (ix6 (j 0) (j 1) (j 2) (j 3) (j 4) k : S4x64x2x4x128x256.Idx)) (fun _ _ e => congrFun e 5)
    (fiber j) z y

theorem reduce_max {s t u : Shape} {axes : List (Fin s.rank)} (x : s.Idx → EReal) (init : u.Idx → EReal)
    (h : s.ReducesTo axes t) (hu : 0 < u.numel) (j : t.Idx) :
    Host.reduce (FloatOps.maximumf (F := Ideal) (φ := .f32)) x init h hu j
      = (Finset.univ.filter fun i => h.drop i = j).fold max (init (Shape.Idx.first hu)) x :=
  Host.reduce_eq_fold _ _ _ _ _ _

theorem fold_apply (b : Fin 4) (n : Fin 64) (hk : Fin 2) (g : Fin 4) (q : Fin 128) :
    val_main_v68 (F := Ideal) A (ix5 b n hk g q) = Finset.univ.fold max ⊥ (rScore A b n hk g q) := by
  have e : rScore A b n hk g q = fun k => val_main_v65 (F := Ideal) A (ix6 b n hk g q k) := rfl
  rw [e]
  unfold val_main_v68
  generalize val_main_v65 (F := Ideal) A = y
  rw [reduce_max, fold_fiber]
  have e : val_main_cst_10 (F := Ideal) (Shape.Idx.first Gen.h_S_) = (⊥ : EReal) := negInf
  rw [e]
  rfl

/-- The row maximum with the sink, read off the maximum over the keys. -/
theorem max_read (y : FVec Ideal S4x64x2x4x128 .f32) (s : FVec Ideal S8 .f32) (b : Fin 4) (n : Fin 64) (hk : Fin 2) (g : Fin 4) (q : Fin 128) :
    maximumf (broadcastInDim S4x64x2x4x128x1 ![0, 1, 2, 3, 4] Gen.bcast_S4x64x2x4x128_S4x64x2x4x128x1_0_1_2_3_4 y)
      (val_main_v70 (F := Ideal) s) (ix6 b n hk g q 0)
      = max (y (ix5 b n hk g q)) (s (ix1 ⟨hk.val * 4 + g.val, by omega⟩)) := by
  pointwise [val_main_v70, val_main_v67, val_main_v66]

theorem max_apply (b : Fin 4) (n : Fin 64) (hk : Fin 2) (g : Fin 4) (q : Fin 128) :
    val_main_v71 (F := Ideal) A s (ix6 b n hk g q 0)
      = rowMax (rScore A b n hk g q) (s (ix1 ⟨hk.val * 4 + g.val, by omega⟩)) :=
  (max_read (val_main_v68 (F := Ideal) A) s b n hk g q).trans
    (congrArg (fun z : EReal => max z (s (ix1 ⟨hk.val * 4 + g.val, by omega⟩))) (fold_apply A b n hk g q))

/-- A weight, read off its score and the maximum. -/
theorem weight_read (y : FVec Ideal S4x64x2x4x128x256 .f32) (z : FVec Ideal S4x64x2x4x128x1 .f32) (b : Fin 4) (n : Fin 64)
    (hk : Fin 2) (g : Fin 4) (q : Fin 128) (k : Fin 256) :
    Host.exp (subf y (broadcastInDim S4x64x2x4x128x256 ![0, 1, 2, 3, 4, 5]
        Gen.bcast_S4x64x2x4x128x1_S4x64x2x4x128x256_0_1_2_3_4_5 z)) (ix6 b n hk g q k)
      = Ideal.exp (y (ix6 b n hk g q k) - z (ix6 b n hk g q 0)) := by
  pointwise []

theorem weight_apply (b : Fin 4) (n : Fin 64) (hk : Fin 2) (g : Fin 4) (q : Fin 128) (k : Fin 256) :
    val_main_v74 (F := Ideal) A s (ix6 b n hk g q k)
      = weight (rScore A b n hk g q) (s (ix1 ⟨hk.val * 4 + g.val, by omega⟩)) k :=
  (weight_read (val_main_v65 (F := Ideal) A) (val_main_v71 (F := Ideal) A s) b n hk g q k).trans
    (congrArg (fun z : EReal => Ideal.exp (rScore A b n hk g q k - z)) (max_apply A s b n hk g q))

theorem sum_apply (b : Fin 4) (n : Fin 64) (hk : Fin 2) (g : Fin 4) (q : Fin 128) :
    val_main_v75 (F := Ideal) A s (ix5 b n hk g q)
      = ∑ k, weight (rScore A b n hk g q) (s (ix1 ⟨hk.val * 4 + g.val, by omega⟩)) k := by
  rw [val_main_v75_apply, show val_main_cst_11 (F := Ideal) (Shape.Idx.first Gen.h_S_) = (0 : EReal) from zeroWord, zero_add]
  refine Finset.sum_congr rfl fun k _ => ?_
  rw [← weight_apply]
  exact congrArg _ (eq_ix6 _)

/-- The denominator, read off the sum of the weights and the maximum. -/
theorem denom_read (y : FVec Ideal S4x64x2x4x128 .f32) (z : FVec Ideal S4x64x2x4x128x1 .f32) (s : FVec Ideal S8 .f32) (b : Fin 4)
    (n : Fin 64) (hk : Fin 2) (g : Fin 4) (q : Fin 128) :
    addf (broadcastInDim S4x64x2x4x128x1 ![0, 1, 2, 3, 4] Gen.bcast_S4x64x2x4x128_S4x64x2x4x128x1_0_1_2_3_4 y)
        (Host.exp (subf (val_main_v77 (F := Ideal) s) z)) (ix6 b n hk g q 0)
      = y (ix5 b n hk g q) + Ideal.exp (s (ix1 ⟨hk.val * 4 + g.val, by omega⟩) - z (ix6 b n hk g q 0)) := by
  pointwise [val_main_v77, val_main_v67, val_main_v66]

theorem denom_apply (b : Fin 4) (n : Fin 64) (hk : Fin 2) (g : Fin 4) (q : Fin 128) :
    val_main_v80 (F := Ideal) A s (ix6 b n hk g q 0)
      = denom (rScore A b n hk g q) (s (ix1 ⟨hk.val * 4 + g.val, by omega⟩)) :=
  (denom_read (val_main_v75 (F := Ideal) A s) (val_main_v71 (F := Ideal) A s) s b n hk g q).trans
    (congrArg₂ (fun x z : EReal => x + Ideal.exp (s (ix1 ⟨hk.val * 4 + g.val, by omega⟩) - z)) (sum_apply A s b n hk g q)
      (max_apply A s b n hk g q))

/-- A normalised weight, read off the weight and the denominator. -/
theorem quot_read (y : FVec Ideal S4x64x2x4x128x256 .f32) (z : FVec Ideal S4x64x2x4x128x1 .f32) (b : Fin 4) (n : Fin 64)
    (hk : Fin 2) (g : Fin 4) (q : Fin 128) (k : Fin 256) :
    Host.divf y (broadcastInDim S4x64x2x4x128x256 ![0, 1, 2, 3, 4, 5]
        Gen.bcast_S4x64x2x4x128x1_S4x64x2x4x128x256_0_1_2_3_4_5 z) (ix6 b n hk g q k)
      = Ideal.div (y (ix6 b n hk g q k)) (z (ix6 b n hk g q 0)) := by
  pointwise []

/-- A row of the output, as the reference computes it. -/
theorem row_apply (b : Fin 4) (n : Fin 64) (hk : Fin 2) (g : Fin 4) (q : Fin 128) (d : Fin 64) :
    val_main_v83 (F := Ideal) A s (ix6 b n hk g q d)
      = ∑ k : Fin 256, Ideal.div (weight (rScore A b n hk g q) (s (ix1 ⟨hk.val * 4 + g.val, by omega⟩)) k)
          (denom (rScore A b n hk g q) (s (ix1 ⟨hk.val * 4 + g.val, by omega⟩)))
          * val_main_v13 (F := Ideal) A (ix5 b n k hk d) := by
  rw [val_main_v83_apply]
  refine Finset.sum_congr rfl fun k _ => congrArg₂ (fun x y : EReal => x * y) ?_ (congrArg _ (eq_ix5 _))
  have e : lidx_main_v83 (ix6 b n hk g q d) k = ix6 b n hk g q k := eq_ix6 _
  rw [e, ← denom_apply, ← weight_apply]
  exact quot_read (val_main_v74 (F := Ideal) A s) (val_main_v80 (F := Ideal) A s) b n hk g q k

/-- An entry of the output, read off a row. -/
theorem out_read (y : FVec Ideal S4x64x2x4x128x64 .f32) (R : Fin 32768) (col : Fin 512) :
    truncf .bf16 (shapeCast S32768x512 (transpose S4x64x128x2x4x64 [0, 1, 4, 2, 3, 5] y
        Gen.transposes_S4x64x2x4x128x64_S4x64x128x2x4x64_0_1_4_2_3_5) Gen.shapeCasts_S4x64x128x2x4x64_S32768x512)
        Gen.bitsLt_bf16_f32 (ix2 R col)
      = y (ix6 ⟨R.val / 8192, by omega⟩ ⟨R.val / 128 % 64, by omega⟩ ⟨col.val / 256, by omega⟩
          ⟨col.val / 64 % 4, by omega⟩ ⟨R.val % 128, by omega⟩ ⟨col.val % 64, by omega⟩) := by
  pointwise []

/-- An entry of the output is one of a row. -/
theorem out_apply (R : Fin 32768) (col : Fin 512) :
    val_main_v86 (F := Ideal) A s (ix2 R col)
      = val_main_v83 (F := Ideal) A s (ix6 ⟨R.val / 8192, by omega⟩ ⟨R.val / 128 % 64, by omega⟩ ⟨col.val / 256, by omega⟩
          ⟨col.val / 64 % 4, by omega⟩ ⟨R.val % 128, by omega⟩ ⟨col.val % 64, by omega⟩) :=
  out_read (val_main_v83 (F := Ideal) A s) R col

end Cert.ReferenceIdeal.Attention
-- ==== Proof.Attention.Equation.lean ====
/-
  The two programs' outputs are the same array.
-/
module

public import proofs.«01_k».proof.Proof.Attention.Array
public import proofs.«01_k».proof.Proof.Attention.Table
public import proofs.«01_k».proof.Proof.Attention.Reference

@[expose] public section

set_option maxRecDepth 16384

noncomputable section

namespace Cert.Attention

open Idealize.ShloMosaic Idealize.ShloMosaic.TcCoe Idealize.ShloMosaic.Tactic
open Cert.KernelIdeal.Attention (src kScore kRow kOut)
open Cert.ReferenceIdeal.Attention (rScore rowOf)

/-- A real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {n : Nat} (f : Fin n → EReal) (h : ∀ k, IsReal (f k)) : IsReal (∑ k, f k) := by
  choose r hr using h
  have e : ∀ t : Finset (Fin n), IsReal (∑ k ∈ t, f k) := fun t => by
    induction t using Finset.induction_on with
    | empty => exact ⟨0, by simp⟩
    | insert a t ha ih =>
      obtain ⟨x, hx⟩ := ih
      exact ⟨r a + x, by rw [Finset.sum_insert ha, hx, hr, EReal.coe_add]⟩
  exact e _

theorem IsReal.ne_top {x : EReal} (h : IsReal x) : x ≠ ⊤ := by
  obtain ⟨r, rfl⟩ := h
  exact EReal.coe_ne_top r

/-- A one-bit word is zero or one. -/
theorem bit (w : BitVec 1) : w = 0#1 ∨ w = 1#1 := by revert w; decide

/-- The word that tells whether a block has one before it. -/
theorem later : ∀ n < 64, IntOp.cmpi .sgt (BitVec.ofNat 32 n) 0#32 = if n = 0 then 0#1 else 1#1 := by decide +kernel

/-- The mask of block `n`. -/
def mask (n q k : Nat) : BitVec 1 :=
  IntOp.andi (band q k) (IntOp.ori (IntOp.cmpi .sgt (BitVec.ofNat 32 n) 0#32) (own k))

/-- Before the first block nothing is attended to. -/
theorem mask_first (q k : Nat) (hk : k < 128) : mask 0 q k = 0#1 := by
  unfold mask
  rw [own_eq k (by omega), if_pos hk]
  rcases bit (band q k) with h | h <;> rw [h] <;> decide

theorem mask_of_first (q k : Nat) : IntOp.andi (band q k) (own k) = mask 0 q k := by
  unfold mask
  rcases bit (band q k) with h | h <;> rcases bit (own k) with h' | h' <;> rw [h, h'] <;> decide

theorem mask_of_later (n q k : Nat) (h0 : n ≠ 0) (hn : n < 64) : band q k = mask n q k := by
  unfold mask
  rw [later n hn, if_neg h0]
  rcases bit (band q k) with h | h <;> rcases bit (own k) with h' | h' <;> rw [h, h'] <;> decide

variable (A : (⟨3, ![22, 32768, 128]⟩ : Shape).Idx → EReal)

/-- Row `R` lies in sequence `R / 8192`, block `R / 128 % 64`, at place `R % 128`: the two programs read the same row of
    keys. -/
theorem rowOf_eq (R : Fin 32768) (k : Fin 256) :
    rowOf ⟨R.val / 8192, by omega⟩ ⟨R.val / 128 % 64, by omega⟩ k = src R k := by
  apply Fin.ext
  simp only [rowOf, src]
  split <;> split <;> omega

/-- The kernel's masked bias. -/
def biasOf (n h q k : Nat) : EReal := Scalar.select (mask n q k) (-slopeOf h * distOf q k) (Ideal.ofBits FTy.f32 4286578688#32)

/-- The table holds the masked bias. -/
def Holds (B : (⟨4, ![2, 2, 512, 256]⟩ : Shape).Idx → EReal) : Prop :=
  ∀ (sel hk : Fin 2) (g : Fin 4) (q : Fin 128) (k : Fin 256),
    B (ix4 sel hk ⟨128 * g.val + q.val, by omega⟩ k)
      = if sel.val < 1 then Scalar.select (IntOp.andi (band q k) (own k)) (-slopeOf (hk.val * 4 + g.val) * distOf q k)
            (Ideal.ofBits FTy.f32 4286578688#32)
          else Scalar.select (band q k) (-slopeOf (hk.val * 4 + g.val) * distOf q k) (Ideal.ofBits FTy.f32 4286578688#32)

theorem bias_eq (B : (⟨4, ![2, 2, 512, 256]⟩ : Shape).Idx → EReal) (hB : Holds B) (R : Fin 32768) (hk : Fin 2) (g : Fin 4)
    (k : Fin 256) :
    B (ix4 (if R.val % 8192 / 128 = 0 then 0 else 1) hk ⟨128 * g.val + R.val % 128, by omega⟩ k)
      = biasOf (R.val / 128 % 64) (hk.val * 4 + g.val) (R.val % 128) k := by
  have h := hB (if R.val % 8192 / 128 = 0 then 0 else 1) hk g ⟨R.val % 128, by omega⟩ k
  refine h.trans ?_
  unfold biasOf
  by_cases e : R.val % 8192 / 128 = 0
  · have e' : R.val / 128 % 64 = 0 := by omega
    simp only [if_pos e, e', mask_of_first]
    rfl
  · have e' : R.val / 128 % 64 ≠ 0 := by omega
    simp only [if_neg e, mask_of_later (R.val / 128 % 64) (R.val % 128) k e' (by omega)]
    rfl

/-- Queries and keys are real numbers. -/
def Real5 : Prop := ∀ (p : Fin 22) (R : Fin 32768) (l : Fin 128), p.val < 5 → IsReal (A (ix3 p R l))

/-- The kernel's score is minus infinity where the mask is off, and the reference's where it is on. -/
theorem score_cases (hA : Real5 A) (B : (⟨4, ![2, 2, 512, 256]⟩ : Shape).Idx → EReal) (hB : Holds B) (R : Fin 32768) (hk : Fin 2)
    (g : Fin 4) (k : Fin 256) :
    kScore A B R hk g k
        = rScore A ⟨R.val / 8192, by omega⟩ ⟨R.val / 128 % 64, by omega⟩ hk g ⟨R.val % 128, by omega⟩ k
      ∧ kScore A B R hk g k ≠ ⊤
      ∧ (R.val / 128 % 64 = 0 ∧ k.val < 128 → kScore A B R hk g k = ⊥) := by
  have er : rScore A ⟨R.val / 8192, by omega⟩ ⟨R.val / 128 % 64, by omega⟩ hk g ⟨R.val % 128, by omega⟩ k = _ :=
    Cert.ReferenceIdeal.Attention.score_apply A _ _ hk g _ k
  unfold kScore
  rw [er, bias_eq B hB]
  unfold biasOf
  change _ = Scalar.select (mask (R.val / 128 % 64) (R.val % 128) k) _ _ ∧ _
  rw [negInf]
  rcases bit (mask (R.val / 128 % 64) (R.val % 128) k) with hm | hm
  · rw [hm]
    change _ + ⊥ = ⊥ ∧ _ + ⊥ ≠ ⊤ ∧ (_ → _ + ⊥ = ⊥)
    rw [EReal.add_bot]
    exact ⟨rfl, bot_ne_top, fun _ => rfl⟩
  · have hn : ¬ (R.val / 128 % 64 = 0 ∧ k.val < 128) := by
      rintro ⟨h0, hk⟩
      rw [h0, mask_first _ _ hk] at hm
      exact absurd hm (by decide)
    obtain ⟨e, he, hee⟩ := Cert.KernelIdeal.Attention.exists_eighth
    have hprod : IsReal (slopeOf (hk.val * 4 + g.val) * distOf (R.val % 128) k) :=
      IsReal.mul (exists_slope _ (by omega)) (exists_dist _ _)
    have hq : ∀ d : Fin 64, IsReal (A (ix3 ⟨(256 * hk.val + 64 * g.val + d.val) / 128, by omega⟩ R ⟨(64 * g.val + d.val) % 128, by omega⟩)) :=
      fun d => hA _ _ _ (by show (256 * hk.val + 64 * g.val + d.val) / 128 < 5; omega)
    have hkk : ∀ d : Fin 64, IsReal (A (ix3 4 (src R k) ⟨64 * hk.val + d.val, by omega⟩)) := fun d => hA _ _ _ (by decide)
    rw [hm]
    change _ + -_ * _ = _ * Ideal.ofBits FTy.f32 1040187392#32 - _ ∧ _ + -_ * _ ≠ ⊤ ∧ _
    rw [EReal.neg_mul, ← sub_eq_add_neg]
    refine ⟨?_, ?_, fun h => absurd h hn⟩
    · refine congrArg (fun x : EReal => x - _) ?_
      rw [Cert.ReferenceIdeal.Attention.dot_apply, show Ideal.ofBits FTy.f32 1040187392#32 = (e : EReal) from hee,
        sum_mul_coe _ e he]
      refine Finset.sum_congr rfl fun d _ => ?_
      rw [Cert.ReferenceIdeal.Attention.keys_apply, if_neg hn, Cert.ReferenceIdeal.Attention.query_apply, rowOf_eq, hee]
      have eR : (⟨8192 * (R.val / 8192) + 128 * (R.val / 128 % 64) + R.val % 128, by omega⟩ : Fin 32768) = R :=
        Fin.ext (show 8192 * (R.val / 8192) + 128 * (R.val / 128 % 64) + R.val % 128 = R.val by omega)
      simp only [eR]
      rw [mul_right_comm, mul_comm (A _) (A _)]
    · obtain ⟨x, hx⟩ := hprod
      obtain ⟨y, hy⟩ := IsReal.sum _ fun d : Fin 64 => ((hq d).mul ⟨e, hee⟩).mul (hkk d)
      rw [hx, hy]
      exact EReal.coe_ne_top (y - x)

/-- The two output arrays are equal. -/
theorem out_eq (hA : Real5 A) (B : (⟨4, ![2, 2, 512, 256]⟩ : Shape).Idx → EReal) (hB : Holds B)
    (s : (⟨1, ![8]⟩ : Shape).Idx → EReal) (hs : ∀ h : Fin 8, IsReal (s (ix1 h))) (s' : (⟨2, ![1, 8]⟩ : Shape).Idx → EReal)
    (hs' : ∀ h : Fin 8, s' (ix2 0 h) = s (ix1 h)) :
    kOut A B s' = Cert.ReferenceIdeal.Read.val_main_v86 (F := Ideal) A s := by
  funext y
  obtain ⟨R, col, rfl⟩ : ∃ (R : Fin 32768) (col : Fin 512), y = ix2 R col := ⟨y 0, y 1, eq_ix2 y⟩
  rw [Cert.ReferenceIdeal.Attention.out_apply, Cert.ReferenceIdeal.Attention.row_apply]
  obtain ⟨hk, ehk⟩ : ∃ hk : Fin 2, hk = ⟨col.val / 256, by omega⟩ := ⟨_, rfl⟩
  obtain ⟨g, eg⟩ : ∃ g : Fin 4, g = ⟨col.val / 64 % 4, by omega⟩ := ⟨_, rfl⟩
  have eg' : (⟨col.val % 256 / 64, by omega⟩ : Fin 4) = g := by
    rw [eg]; exact Fin.ext (show col.val % 256 / 64 = col.val / 64 % 4 by omega)
  change kRow A B s' R ⟨col.val / 256, _⟩ ⟨col.val % 256 / 64, _⟩ ⟨col.val % 64, _⟩ = _
  rw [eg', ← ehk, ← eg]
  unfold kRow
  have e1 : kScore A B R hk g = rScore A ⟨R.val / 8192, by omega⟩ ⟨R.val / 128 % 64, by omega⟩ hk g ⟨R.val % 128, by omega⟩ :=
    funext fun k => (score_cases A hA B hB R hk g k).1
  have e2 : s' (ix2 0 ⟨4 * hk.val + g.val, by omega⟩) = s (ix1 ⟨hk.val * 4 + g.val, by omega⟩) := by
    rw [hs']
    exact congrArg (fun h => s (ix1 h)) (Fin.ext (show 4 * hk.val + g.val = hk.val * 4 + g.val by omega))
  obtain ⟨t, ht⟩ := hs ⟨hk.val * 4 + g.val, by omega⟩
  have hS : ∀ k, kScore A B R hk g k ≠ ⊤ := fun k => (score_cases A hA B hB R hk g k).2.1
  rw [e2, ht, ← e1, sum_div_eq_attnRow _ t _ hS]
  refine attnRow_congr _ t _ _ hS fun k hb => ?_
  have hn : ¬ (R.val / 128 % 64 = 0 ∧ k.val < 128) := fun h => hb ((score_cases A hA B hB R hk g k).2.2 h)
  rw [Cert.ReferenceIdeal.Attention.vals_apply, if_neg hn, rowOf_eq]

end Cert.Attention
-- ==== Proof.Attention.Finite.lean ====
/-
  The precondition, decoded: the queries, the keys and the sinks are real numbers.
-/
module

public import proofs.«01_k».proof.Proof.Attention.Equation
public import proofs.«01_k».proof.Pre_finite

@[expose] public section

set_option maxRecDepth 16384

noncomputable section

namespace Cert.Attention

open Idealize.ShloMosaic Idealize.ShloMosaic.TcCoe Idealize.ShloMosaic.Tactic

/-- The precondition's shape relations. -/
instance finiteFacts : Cert.Pre_finite.Facts where
  slices_S22x32768x128_S5x32768x128_0_0_0 := by decide
  bcast_S_S5x32768x128 := by decide
  bcast_S_S8 := by decide

/-- A magnitude below plus infinity is a real number's. -/
theorem real_of_abs_lt (x : EReal) (h : Ideal.cmp .olt (max x (-x)) (Ideal.ofBits FTy.f32 0x7F800000#32) = 1#1) : IsReal x := by
  have htop : Ideal.ofBits FTy.f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition the first five planes are real. -/
theorem real_planes (A : (⟨3, ![22, 32768, 128]⟩ : Shape).Idx → EReal) (s : (⟨1, ![8]⟩ : Shape).Idx → EReal)
    (h : (Cert.Pre_finite.fn (F := Ideal) A s).1 = fun _ => 1#1) : Real5 A := by
  intro p R l hp
  have e := congrFun h (ix3 (⟨p.val, hp⟩ : Fin 5) R l)
  have ex : extractStridedSlice Cert.Pre_finite.S5x32768x128 ![0, 0, 0] A
      Cert.Pre_finite.Facts.slices_S22x32768x128_S5x32768x128_0_0_0 (ix3 (⟨p.val, hp⟩ : Fin 5) R l) = A (ix3 p R l) := by
    refine extractStridedSlice_apply _ _ _ _ _ fun a => ?_
    match a with
    | ⟨0, _⟩ => exact (Nat.zero_add _).symm
    | ⟨1, _⟩ => exact (Nat.zero_add _).symm
    | ⟨2, _⟩ => exact (Nat.zero_add _).symm
  rw [← ex]
  exact real_of_abs_lt _ e

/-- Under the precondition the sinks are real. -/
theorem real_sinks (A : (⟨3, ![22, 32768, 128]⟩ : Shape).Idx → EReal) (s : (⟨1, ![8]⟩ : Shape).Idx → EReal)
    (h : (Cert.Pre_finite.fn (F := Ideal) A s).2 = fun _ => 1#1) (k : Fin 8) : IsReal (s (ix1 k)) :=
  real_of_abs_lt _ (congrFun h (ix1 k))

end Cert.Attention
-- ==== Proof.Ffn.Row.lean ====
/-
  The feed-forward layer on one row, over the extended reals: what every feed-forward kernel of this file computes in each
  of its rows. `normRow` scales a row by the inverse root of its mean square, `ffnRow` adds to a row half of the gated
  two-layer network of its scaled self.
-/
module

public import Idealize.ShloMosaic.PureOps.Ideal.Laws

@[expose] public section

set_option maxRecDepth 16384

noncomputable section

namespace Cert.Ffn

open Idealize.ShloMosaic
open scoped BigOperators

/-- `1 / 2` as the programs hold it. -/
def half : EReal := Ideal.ofBits FTy.f32 0x3F000000#32
/-- The width of a row, `1024`, as the programs hold it. -/
def width : EReal := Ideal.ofBits FTy.f32 0x44800000#32
/-- The small number that is added to a mean square, as the programs hold it. -/
def small : EReal := Ideal.ofBits FTy.f32 0x358637BD#32
/-- The cubic coefficient of the activation `gelu`, as the programs hold it. -/
def cubic : EReal := Ideal.ofBits FTy.f32 0x3D372713#32
/-- The outer coefficient of the activation `gelu`, as the programs hold it. -/
def outer : EReal := Ideal.ofBits FTy.f32 0x3F4C422A#32

/-- A row scaled by the inverse root of its mean square and by the learnt gains `g`. -/
def normRow (x g : Fin 1024 → EReal) (c : Fin 1024) : EReal :=
  x c * Ideal.rsqrt (Ideal.div (∑ k, x k * x k) width + small) * g c

/-- The logistic function. -/
def sigmoid (v : EReal) : EReal := Ideal.div 1 (1 + Ideal.exp (-v))

/-- The activation `gelu`, by the hyperbolic tangent. -/
def gelu (v : EReal) : EReal := v * (half * (1 + Ideal.tanh (outer * (v + cubic * (v * v * v)))))

/-- One of the 2816 hidden units of the gated network. -/
def unit (h : Fin 1024 → EReal) (wi : Fin 1024 → Fin 5632 → EReal) (j : Fin 2816) : EReal :=
  (∑ d, h d * wi d ⟨j.val, by omega⟩) * sigmoid (∑ d, h d * wi d ⟨j.val, by omega⟩) * ∑ d, h d * wi d ⟨2816 + j.val, by omega⟩

/-- A row plus half of the gated network of the scaled row. -/
def ffnRow (x g : Fin 1024 → EReal) (wi : Fin 1024 → Fin 5632 → EReal) (wo : Fin 2816 → Fin 1024 → EReal) (c : Fin 1024) : EReal :=
  x c + half * ∑ j, unit (normRow x g) wi j * wo j c

/-- The 2816 hidden units, taken 256 at a time. -/
theorem sum_parts (f : Fin 2816 → EReal) :
    ∑ j, f j = ∑ p : Fin 11, ∑ k : Fin 256, f ⟨256 * p.val + k.val, by omega⟩ := by
  rw [← Fintype.sum_prod_type' (f := fun (p : Fin 11) (k : Fin 256) => f ⟨256 * p.val + k.val, by omega⟩)]
  refine ((finProdFinEquiv (m := 11) (n := 256)).sum_comp f).symm.trans (Finset.sum_congr rfl fun pk _ => congrArg f (Fin.ext ?_))
  exact Nat.add_comm pk.2.val (256 * pk.1.val)

end Cert.Ffn

end
-- ==== Proof.Ffn.Tile.lean ====
/-
  The feed-forward layer as the kernels compute it on a tile of `n` rows: the hidden units 256 at a time, the products with
  the output weights added part by part.
-/
module

public import proofs.«01_k».proof.Proof.Ffn.Row
public import Idealize.ShloMosaic.Lib.MatmulPlain
public import Idealize.ShloMosaic.Lib.KernelVsHost
public import Idealize.ShloMosaic.Lib.ValueLayout
public import Idealize.ShloMosaic.Lib.StackMember
public import Idealize.ShloMosaic.Lib.Pointwise
public import Idealize.ShloMosaic.Lib.Pipeline.ValueKit.Tiles

@[expose] public section

set_option maxRecDepth 16384

noncomputable section

namespace Cert.Ffn

open Idealize.ShloMosaic Idealize.ShloMosaic.TcCoe Idealize.ShloMosaic.Tactic
open Idealize.ShloMosaic.ValueIdx (broadcastTo_1b_ab_apply reshapeEquiv_ix2_11ab)

/-- The shape of an array with `a` rows of `b` entries. -/
abbrev Sh (a b : Nat) : Shape := ⟨2, ![a, b]⟩

/-- What the tile's shapes have to satisfy for the operations on it. -/
structure Fits (n : Nat) : Prop where
  red : (Sh n 1024).Reduces [1] ⟨1, ![n]⟩
  col : (⟨1, ![n]⟩ : Shape).ShapeCasts (Sh n 1)
  bcol : (Sh n 1).Broadcasts (Sh n 1024)
  brow : (Sh 1 1024).Broadcasts (Sh n 1024)

variable {n : Nat} (hn : Fits n) {F : FTy → Type} [FloatOps F]

/-- The rows scaled by the inverse root of their mean squares and by the gains. -/
def normTile (X : FVec F (Sh n 1024) .f32) (g : FVec F (Sh 1 1024) .f32) : FVec F (Sh n 1024) .f32 :=
  mulf (mulf X (broadcastTo (Sh n 1024) (rsqrt (addf (divf
      (shapeCast (Sh n 1) (multiReduction .add [1] ⟨1, ![n]⟩ (mulf X X) 0x00000000#32 hn.red (.inl rfl) rfl) hn.col)
      (broadcast (Sh n 1) (Scalar.ofBits .f32 0x44800000#32 : F .f32))) (broadcast (Sh n 1) (Scalar.ofBits .f32 0x358637BD#32 : F .f32)))) hn.bcol))
    (broadcastTo (Sh n 1024) g hn.brow)

/-- Hidden units from their two products. -/
def unitTile (gate up : FVec F (Sh n 256) .f32) : FVec F (Sh n 256) .f32 :=
  mulf (mulf gate (divf (broadcast (Sh n 256) (Scalar.ofBits .f32 0x3F800000#32 : F .f32))
    (addf (broadcast (Sh n 256) (Scalar.ofBits .f32 0x3F800000#32 : F .f32))
      (exp (subf (broadcast (Sh n 256) (Scalar.ofBits .f32 0x00000000#32 : F .f32)) gate))))) up

/-- 256 columns of the input weights, from column `o` on. -/
def inCols (wi : Vec F ⟨4, ![1, 1, 1024, 5632]⟩ .bf16) (o : Nat) (ho : o ≤ 5376) : FVec F (Sh 1024 256) .bf16 :=
  shapeCast (Sh 1024 256) (View.ld wi (Rect.unit (s := ⟨4, ![1, 1, 1024, 5632]⟩) ![0, 0, 0, o] ![1, 1, 1024, 256] (fun a => match a with
    | ⟨0, _⟩ => by show 0 + 1 ≤ 1; omega
    | ⟨1, _⟩ => by show 0 + 1 ≤ 1; omega
    | ⟨2, _⟩ => by show 0 + 1024 ≤ 1024; omega
    | ⟨3, _⟩ => by show o + 256 ≤ 5632; omega))) (by decide : (⟨4, ![1, 1, 1024, 256]⟩ : Shape).ShapeCasts (Sh 1024 256))

/-- 256 rows of the output weights, from row `o` on. -/
def outRows (wo : Vec F ⟨4, ![1, 1, 2816, 1024]⟩ .bf16) (o : Nat) (ho : o ≤ 2560) : FVec F (Sh 256 1024) .bf16 :=
  shapeCast (Sh 256 1024) (View.ld wo (Rect.unit (s := ⟨4, ![1, 1, 2816, 1024]⟩) ![0, 0, o, 0] ![1, 1, 256, 1024] (fun a => match a with
    | ⟨0, _⟩ => by show 0 + 1 ≤ 1; omega
    | ⟨1, _⟩ => by show 0 + 1 ≤ 1; omega
    | ⟨2, _⟩ => by show o + 256 ≤ 2816; omega
    | ⟨3, _⟩ => by show 0 + 1024 ≤ 1024; omega))) (by decide : (⟨4, ![1, 1, 256, 1024]⟩ : Shape).ShapeCasts (Sh 256 1024))

/-- The contribution of the 256 hidden units from unit `o` on. -/
def part (h : FVec F (Sh n 1024) .bf16) (wi : Vec F ⟨4, ![1, 1, 1024, 5632]⟩ .bf16) (wo : Vec F ⟨4, ![1, 1, 2816, 1024]⟩ .bf16)
    (o : Nat) (ho : o ≤ 2560) : FVec F (Sh n 1024) .f32 :=
  matmul (DotDims.plain n 256 1024) none (truncf .bf16 (unitTile
      (matmul (DotDims.plain n 1024 256) none h (inCols wi o (by omega)) (constant (Sh n 256) .f32 0x00000000#32))
      (matmul (DotDims.plain n 1024 256) none h (inCols wi (2816 + o) (by omega)) (constant (Sh n 256) .f32 0x00000000#32))) (by decide))
    (outRows wo o ho) (constant (Sh n 1024) .f32 0x00000000#32)

/-- The eleven contributions added in order. -/
def parts (h : FVec F (Sh n 1024) .bf16) (wi : Vec F ⟨4, ![1, 1, 1024, 5632]⟩ .bf16) (wo : Vec F ⟨4, ![1, 1, 2816, 1024]⟩ .bf16) :
    FVec F (Sh n 1024) .f32 :=
  addf (addf (addf (addf (addf (addf (addf (addf (addf (addf (part h wi wo 0 (by omega)) (part h wi wo 256 (by omega)))
    (part h wi wo 512 (by omega))) (part h wi wo 768 (by omega))) (part h wi wo 1024 (by omega))) (part h wi wo 1280 (by omega)))
    (part h wi wo 1536 (by omega))) (part h wi wo 1792 (by omega))) (part h wi wo 2048 (by omega))) (part h wi wo 2304 (by omega)))
    (part h wi wo 2560 (by omega))

/-- The layer on a tile. -/
def ffnTile (X : FVec F (Sh n 1024) .f32) (g : FVec F (Sh 1 1024) .f32) (wi : Vec F ⟨4, ![1, 1, 1024, 5632]⟩ .bf16)
    (wo : Vec F ⟨4, ![1, 1, 2816, 1024]⟩ .bf16) : FVec F (Sh n 1024) .f32 :=
  addf X (mulf (broadcast (Sh n 1024) (Scalar.ofBits .f32 0x3F000000#32 : F .f32)) (parts (truncf .bf16 (normTile hn X g) (by decide)) wi wo))

/-- A column repeated along the rows. -/
theorem broadcastCol_apply (v : (Sh n 1).Idx → EReal) (h : (Sh n 1).Broadcasts (Sh n 1024)) (r : Fin n) (c : Fin 1024) :
    broadcastTo (Sh n 1024) v h (ix2 r c) = v (ix2 r 0) := by
  refine broadcastTo_apply v h (ix2 r c) (ix2 r 0) fun ax => ?_
  match ax with
  | ⟨0, _⟩ =>
    show r.val = if n = 1 then 0 else r.val
    split
    · have := r.isLt; omega
    · rfl
  | ⟨1, _⟩ => rfl

/-- A vector as a column. -/
theorem shapeCastCol_apply (v : (⟨1, ![n]⟩ : Shape).Idx → EReal) (h : (⟨1, ![n]⟩ : Shape).ShapeCasts (Sh n 1)) (r : Fin n) :
    shapeCast (Sh n 1) v h (ix2 r 0) = v (ix1 r) :=
  shapeCast_apply v h _ _ (by
    rw [Shape.rowMajor_val_two, Shape.rowMajor_val_one]
    show r.val = r.val * 1 + 0
    omega)

/-- The sum of a row. -/
theorem sumRow_apply (h : (Sh n 1024).Reduces [1] ⟨1, ![n]⟩) (Y : FVec Ideal (Sh n 1024) .f32) (r : Fin n) :
    multiReduction .add [1] ⟨1, ![n]⟩ Y 0x00000000#32 h (.inl rfl) rfl (ix1 r) = ∑ k, Y (ix2 r k) := by
  pointwise []

theorem normTile_apply (X : FVec Ideal (Sh n 1024) .f32) (g : FVec Ideal (Sh 1 1024) .f32) (r : Fin n) (c : Fin 1024) :
    normTile hn X g (ix2 r c) = normRow (fun k => X (ix2 r k)) (fun k => g (ix2 0 k)) c := by
  refine (congrArg₂ (fun a b : EReal => X (ix2 r c) * a * b) (broadcastCol_apply _ hn.bcol r c)
    (broadcastTo_1b_ab_apply g hn.brow r c)).trans ?_
  refine congrArg (fun a : EReal => X (ix2 r c) * Ideal.rsqrt (Ideal.div a width + small) * g (ix2 0 c)) ?_
  exact (shapeCastCol_apply _ hn.col r).trans (sumRow_apply hn.red _ r)

theorem unitTile_apply (gate up : FVec Ideal (Sh n 256) .f32) (r : Fin n) (k : Fin 256) :
    unitTile gate up (ix2 r k) = gate (ix2 r k) * sigmoid (gate (ix2 r k)) * up (ix2 r k) := by
  pointwise [unitTile]
  simp only [sigmoid, Ideal.ofBits_zero_f32, zero_sub]

theorem inCols_apply (wi : Vec Ideal ⟨4, ![1, 1, 1024, 5632]⟩ .bf16) (o : Nat) (ho : o ≤ 5376) (d : Fin 1024) (k : Fin 256) :
    inCols wi o ho (ix2 d k) = wi (ix4 0 0 d ⟨o + k.val, by omega⟩) := by
  refine (congrArg _ (reshapeEquiv_ix2_11ab (a := 1024) (b := 256) rfl d k)).trans (View.ld_unit_apply_of wi _ _ _ _ _ fun a => ?_)
  match a with
  | ⟨0, _⟩ => rfl
  | ⟨1, _⟩ => rfl
  | ⟨2, _⟩ => exact (Nat.zero_add _).symm
  | ⟨3, _⟩ => rfl

theorem outRows_apply (wo : Vec Ideal ⟨4, ![1, 1, 2816, 1024]⟩ .bf16) (o : Nat) (ho : o ≤ 2560) (k : Fin 256) (c : Fin 1024) :
    outRows wo o ho (ix2 k c) = wo (ix4 0 0 ⟨o + k.val, by omega⟩ c) := by
  refine (congrArg _ (reshapeEquiv_ix2_11ab (a := 256) (b := 1024) rfl k c)).trans (View.ld_unit_apply_of wo _ _ _ _ _ fun a => ?_)
  match a with
  | ⟨0, _⟩ => rfl
  | ⟨1, _⟩ => rfl
  | ⟨2, _⟩ => rfl
  | ⟨3, _⟩ => exact (Nat.zero_add _).symm

/-- A product accumulated on zeros. -/
theorem product_apply {M K N : Nat} (a : FVec Ideal (Sh M K) .bf16) (b : FVec Ideal (Sh K N) .bf16) (r : Fin M) (c : Fin N) :
    matmul (DotDims.plain M K N) none a b (constant (Sh M N) .f32 0x00000000#32) (ix2 r c) = ∑ k, a (ix2 r k) * b (ix2 k c) := by
  refine (Ideal.matmul_plain_apply none a b _ r c).trans ?_
  refine (congrArg (fun z : EReal => z + _) Ideal.ofBits_zero_f32).trans (zero_add _)

/-- The contribution of 256 hidden units at an entry. -/
theorem part_apply (h : FVec Ideal (Sh n 1024) .bf16) (wi : Vec Ideal ⟨4, ![1, 1, 1024, 5632]⟩ .bf16)
    (wo : Vec Ideal ⟨4, ![1, 1, 2816, 1024]⟩ .bf16) (o : Nat) (ho : o ≤ 2560) (r : Fin n) (c : Fin 1024) :
    part h wi wo o ho (ix2 r c) = ∑ k : Fin 256, unit (fun d => h (ix2 r d)) (fun d j => wi (ix4 0 0 d j)) ⟨o + k.val, by omega⟩
      * wo (ix4 0 0 ⟨o + k.val, by omega⟩ c) := by
  refine (product_apply _ (outRows wo o ho) r c).trans (Finset.sum_congr rfl fun k _ => ?_)
  have hz : ∀ (q : Nat) (hq : q ≤ 5376), matmul (DotDims.plain n 1024 256) none h (inCols wi q hq) (constant (Sh n 256) .f32 0x00000000#32)
      (ix2 r k) = ∑ d, h (ix2 r d) * wi (ix4 0 0 d ⟨q + k.val, by omega⟩) := fun q hq =>
    (product_apply h (inCols wi q hq) r k).trans (Finset.sum_congr rfl fun d _ =>
      congrArg (fun v : EReal => h (ix2 r d) * v) (inCols_apply wi q hq d k))
  refine congrArg₂ (fun a b : EReal => a * b) ((unitTile_apply _ _ r k).trans ?_) (outRows_apply wo o ho k c)
  rw [hz, hz, unit]
  have e : (⟨2816 + o + k.val, by omega⟩ : Fin 5632) = ⟨2816 + (o + k.val), by omega⟩ := Fin.ext (Nat.add_assoc 2816 o k.val)
  simp only [e]

/-- All the hidden units' contribution at an entry. -/
theorem parts_apply (h : FVec Ideal (Sh n 1024) .bf16) (wi : Vec Ideal ⟨4, ![1, 1, 1024, 5632]⟩ .bf16)
    (wo : Vec Ideal ⟨4, ![1, 1, 2816, 1024]⟩ .bf16) (r : Fin n) (c : Fin 1024) :
    parts h wi wo (ix2 r c) = ∑ j, unit (fun d => h (ix2 r d)) (fun d j => wi (ix4 0 0 d j)) j * wo (ix4 0 0 j c) := by
  rw [sum_parts]
  simp only [Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Fin.sum_univ_zero, zero_add]
  show part h wi wo 0 _ (ix2 r c) + part h wi wo 256 _ (ix2 r c) + part h wi wo 512 _ (ix2 r c) + part h wi wo 768 _ (ix2 r c)
    + part h wi wo 1024 _ (ix2 r c) + part h wi wo 1280 _ (ix2 r c) + part h wi wo 1536 _ (ix2 r c) + part h wi wo 1792 _ (ix2 r c)
    + part h wi wo 2048 _ (ix2 r c) + part h wi wo 2304 _ (ix2 r c) + part h wi wo 2560 _ (ix2 r c) = _
  simp only [part_apply]
  rfl

/-- An entry of the layer on a tile is the row function at that row. -/
theorem ffnTile_apply (X : FVec Ideal (Sh n 1024) .f32) (g : FVec Ideal (Sh 1 1024) .f32) (wi : Vec Ideal ⟨4, ![1, 1, 1024, 5632]⟩ .bf16)
    (wo : Vec Ideal ⟨4, ![1, 1, 2816, 1024]⟩ .bf16) (r : Fin n) (c : Fin 1024) :
    ffnTile hn X g wi wo (ix2 r c)
      = ffnRow (fun k => X (ix2 r k)) (fun k => g (ix2 0 k)) (fun d j => wi (ix4 0 0 d j)) (fun j k => wo (ix4 0 0 j k)) c := by
  refine congrArg (fun v : EReal => X (ix2 r c) + half * v) ((parts_apply _ wi wo r c).trans ?_)
  refine Finset.sum_congr rfl fun j _ => congrArg (fun h => unit h (fun d j => wi (ix4 0 0 d j)) j * wo (ix4 0 0 j c)) ?_
  exact funext fun d => normTile_apply hn X g r d

end Cert.Ffn

end
-- ==== Proof.Ffn.Host.lean ====
/-
  The feed-forward layer as the references write it, on whole arrays, read entry by entry.
-/
module

public import proofs.«01_k».proof.Proof.Gen.Reference6Ideal.Read
public import proofs.«01_k».proof.Proof.Ffn.Row
public import Idealize.ShloMosaic.Lib.ValueIdxRank6
public import Idealize.ShloMosaic.Lib.StackMember
public import Idealize.ShloMosaic.Lib.Pointwise

@[expose] public section

set_option maxRecDepth 16384

noncomputable section

namespace Cert.Ffn

open Idealize.ShloMosaic Idealize.ShloMosaic.TcCoe Idealize.ShloMosaic.Tactic
open Idealize.ShloMosaic.StackMember (dotGeneral_plain_apply)
open Cert.Reference6Ideal Cert.Reference6Ideal.Gen

/-- A constant in every place. -/
def fill (T : Shape) (h : (⟨0, ![]⟩ : Shape).BroadcastsInDim T ![]) (b : BitVec 32) : FVec Ideal T .f32 :=
  broadcastInDim T ![] h (constant (F := Ideal) S_ .f32 b)

/-- Every row scaled by the inverse root of its mean square and by the gains. -/
def hostNorm (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf
      (broadcastInDim S32768x1 ![0] bcast_S32768_S32768x1_0
        (Host.reduceAdd (mulf X X) (constant S_ .f32 0x00000000#32) reducesTo_S32768x1024_S32768_d1 h_S_))
      (fill S32768x1 bcast_S_S32768x1 0x44800000#32)) (fill S32768x1 bcast_S_S32768x1 0x358637BD#32)))))
    (broadcastInDim S32768x1024 ![0, 1] bcast_S1x1024_S32768x1024_0_1 (broadcastInDim S1x1024 ![1] bcast_S1024_S1x1024_1 g))

/-- The hidden units from the product of the scaled rows with the input weights. -/
def hostUnits (Z : FVec Ideal S32768x5632 .f32) : FVec Ideal S32768x2816 .f32 :=
  have gate := extractStridedSlice S32768x2816 ![0, 0] Z slices_S32768x5632_S32768x2816_0_0
  mulf (mulf gate (Host.divf (fill S32768x2816 bcast_S_S32768x2816 0x3F800000#32)
      (addf (fill S32768x2816 bcast_S_S32768x2816 0x3F800000#32) (Host.exp (Host.negf gate)))))
    (extractStridedSlice S32768x2816 ![0, 2816] Z slices_S32768x5632_S32768x2816_0_2816)

/-- The layer. -/
def hostFfn (X : FVec Ideal S32768x1024 .f32) (g : FVec Ideal S1024 .f32) (wi : FVec Ideal S1024x5632 .f32)
    (wo : FVec Ideal S2816x1024 .f32) : FVec Ideal S32768x1024 .f32 :=
  addf X (mulf (fill S32768x1024 bcast_S_S32768x1024 0x3F000000#32)
    (Host.dotGeneral dot_S32768x2816_S2816x1024_S32768x1024_1_0_0_1_n_n none
      (hostUnits (Host.dotGeneral dot_S32768x1024_S1024x5632_S32768x5632_1_0_0_1_n_n none (hostNorm X g) wi)) wo))

theorem hostNorm_apply (X : FVec Ideal S32768x1024 .f32) (g : FVec Ideal S1024 .f32) (r : Fin 32768) (c : Fin 1024) :
    hostNorm X g (ix2 r c) = normRow (fun k => X (ix2 r k)) (fun k => g (ix1 k)) c := by
  pointwise [hostNorm, fill]
  simp only [normRow, width, small, Ideal.ofBits_zero_f32, zero_add]

theorem hostUnits_apply (Z : FVec Ideal S32768x5632 .f32) (r : Fin 32768) (j : Fin 2816) :
    hostUnits Z (ix2 r j) = Z (ix2 r ⟨j.val, by omega⟩) * sigmoid (Z (ix2 r ⟨j.val, by omega⟩)) * Z (ix2 r ⟨2816 + j.val, by omega⟩) := by
  pointwise [hostUnits, fill]
  simp only [sigmoid]

theorem hostFfn_read (X : FVec Ideal S32768x1024 .f32) (A : FVec Ideal S32768x1024 .f32) (r : Fin 32768) (c : Fin 1024) :
    addf X (mulf (fill S32768x1024 bcast_S_S32768x1024 0x3F000000#32) A) (ix2 r c) = X (ix2 r c) + half * A (ix2 r c) := by
  pointwise [fill]
  simp only [half]

/-- An entry of the layer is the row function at that row. -/
theorem hostFfn_apply (X : FVec Ideal S32768x1024 .f32) (g : FVec Ideal S1024 .f32) (wi : FVec Ideal S1024x5632 .f32)
    (wo : FVec Ideal S2816x1024 .f32) (r : Fin 32768) (c : Fin 1024) :
    hostFfn X g wi wo (ix2 r c)
      = ffnRow (fun k => X (ix2 r k)) (fun k => g (ix1 k)) (fun d j => wi (ix2 d j)) (fun j k => wo (ix2 j k)) c := by
  refine (hostFfn_read X _ r c).trans (congrArg (fun v : EReal => X (ix2 r c) + half * v) ?_)
  refine (dotGeneral_plain_apply (m := 32768) (k := 2816) (n := 1024) none _ wo r c).trans (Finset.sum_congr rfl fun j _ => ?_)
  refine congrArg (fun v : EReal => v * wo (ix2 j c)) ((hostUnits_apply _ r j).trans ?_)
  have hz : ∀ q : Fin 5632, Host.dotGeneral dot_S32768x1024_S1024x5632_S32768x5632_1_0_0_1_n_n none (hostNorm X g) wi (ix2 r q)
      = ∑ d, normRow (fun k => X (ix2 r k)) (fun k => g (ix1 k)) d * wi (ix2 d q) := fun q =>
    (dotGeneral_plain_apply (m := 32768) (k := 1024) (n := 5632) none _ wi r q).trans
      (Finset.sum_congr rfl fun d _ => congrArg (fun v : EReal => v * wi (ix2 d q)) (hostNorm_apply X g r d))
  rw [hz, hz, unit]

end Cert.Ffn

end
-- ==== Proof.Ffn.Glu.lean ====
/-
  The output step of the state-space mixer that two feed-forward kernels begin with: an activation, a gated linear unit
  and the addition to the row. On one row, on a tile of the kernels, and on whole arrays as the references write it.
-/
module

public import proofs.«01_k».proof.Proof.Gen.Reference2Ideal.Read
public import proofs.«01_k».proof.Proof.Ffn.Tile
public import proofs.«01_k».proof.Proof.Ffn.Host

@[expose] public section

set_option maxRecDepth 16384

noncomputable section

namespace Cert.Ffn

open Idealize.ShloMosaic Idealize.ShloMosaic.TcCoe Idealize.ShloMosaic.Tactic
open Idealize.ShloMosaic.ValueIdx (broadcastTo_1b_ab_apply shapeCast_1ab_ab_apply slice2_axis1_apply)
open Idealize.ShloMosaic.StackMember (dotGeneral_plain_apply)

/-- One of the 2048 columns the gated linear unit multiplies. -/
def gluCol (h y d : Fin 1024 → EReal) (w : Fin 1024 → Fin 2048 → EReal) (q : Fin 2048) : EReal :=
  ∑ k, gelu (y k + d k * h k) * w k q

/-- The row with the gated linear unit added. -/
def gluRow (x h y d : Fin 1024 → EReal) (w : Fin 1024 → Fin 2048 → EReal) (c : Fin 1024) : EReal :=
  x c + gluCol h y d w ⟨c.val, by omega⟩ * sigmoid (gluCol h y d w ⟨1024 + c.val, by omega⟩)

/-- 1024 of the 2048 columns lie in the tile. -/
theorem gateSlices (n o : Nat) (ho : o ≤ 1024) : (⟨2, ![n, 2048]⟩ : Shape).Slices ![0, o] ⟨2, ![n, 1024]⟩ :=
  ⟨rfl, fun a => match a with
    | ⟨0, _⟩ => by show 0 + n ≤ n; omega
    | ⟨1, _⟩ => by show o + 1024 ≤ 2048; omega⟩

section Tile
variable {n : Nat} (hb : (Sh 1 1024).Broadcasts (Sh n 1024)) {F : FTy → Type} [FloatOps F]

/-- The activation on a tile. -/
def geluTile (v : FVec F (Sh n 1024) .f32) : FVec F (Sh n 1024) .f32 :=
  mulf v (mulf (broadcast (Sh n 1024) (Scalar.ofBits .f32 0x3F000000#32 : F .f32))
    (addf (broadcast (Sh n 1024) (Scalar.ofBits .f32 0x3F800000#32 : F .f32))
      (tanh (mulf (broadcast (Sh n 1024) (Scalar.ofBits .f32 0x3F4C422A#32 : F .f32))
        (addf v (mulf (broadcast (Sh n 1024) (Scalar.ofBits .f32 0x3D372713#32 : F .f32)) (mulf (mulf v v) v)))))))

/-- The gate of a tile of 2048 columns: its first half times the logistic function of its second half. -/
def gateTile (Z : FVec F (Sh n 2048) .f32) : FVec F (Sh n 1024) .f32 :=
  mulf (extractStridedSlice (Sh n 1024) ![0, 0] Z (gateSlices n 0 (by omega)))
    (divf (broadcast (Sh n 1024) (Scalar.ofBits .f32 0x3F800000#32 : F .f32))
      (addf (broadcast (Sh n 1024) (Scalar.ofBits .f32 0x3F800000#32 : F .f32))
        (exp (subf (broadcast (Sh n 1024) (Scalar.ofBits .f32 0x00000000#32 : F .f32))
          (extractStridedSlice (Sh n 1024) ![0, 1024] Z (gateSlices n 1024 (by omega)))))))

/-- The step on a tile. -/
def gluTile (X H Y : FVec F (Sh n 1024) .f32) (d : FVec F (Sh 1 1024) .f32) (w : Vec F ⟨3, ![1, 1024, 2048]⟩ .bf16) :
    FVec F (Sh n 1024) .f32 :=
  addf X (gateTile (matmul (DotDims.plain n 1024 2048) none
    (truncf .bf16 (geluTile (addf Y (mulf (broadcastTo (Sh n 1024) d hb) H))) (by decide))
    (shapeCast (Sh 1024 2048) w (by decide : (⟨3, ![1, 1024, 2048]⟩ : Shape).ShapeCasts (Sh 1024 2048))) (constant (Sh n 2048) .f32 0x00000000#32)))

theorem geluTile_apply (v : FVec Ideal (Sh n 1024) .f32) (i : (Sh n 1024).Idx) : geluTile v i = gelu (v i) := by
  pointwise [geluTile]
  simp only [gelu, half, outer, cubic]

theorem gateTile_apply (Z : FVec Ideal (Sh n 2048) .f32) (r : Fin n) (c : Fin 1024) :
    gateTile Z (ix2 r c) = Z (ix2 r ⟨c.val, by omega⟩) * sigmoid (Z (ix2 r ⟨1024 + c.val, by omega⟩)) := by
  have e : gateTile Z (ix2 r c) = (fun a b : EReal => a * Ideal.div (Ideal.ofBits .f32 0x3F800000#32)
      (Ideal.ofBits .f32 0x3F800000#32 + Ideal.exp (Ideal.ofBits .f32 0x00000000#32 - b)))
      (Z (ix2 r ⟨c.val, by omega⟩)) (Z (ix2 r ⟨1024 + c.val, by omega⟩)) :=
    congrArg₂ (fun a b : EReal => a * Ideal.div (Ideal.ofBits .f32 0x3F800000#32)
      (Ideal.ofBits .f32 0x3F800000#32 + Ideal.exp (Ideal.ofBits .f32 0x00000000#32 - b)))
      (slice2_axis1_apply 0 Z (gateSlices n 0 (by omega)) r c ⟨c.val, by omega⟩ (Nat.zero_add _).symm)
      (slice2_axis1_apply 1024 Z (gateSlices n 1024 (by omega)) r c ⟨1024 + c.val, by omega⟩ rfl)
  rw [e]
  simp only [sigmoid, Ideal.ofBits_zero_f32, zero_sub, Ideal.ofBits_one_f32]

theorem gluTile_apply (X H Y : FVec Ideal (Sh n 1024) .f32) (d : FVec Ideal (Sh 1 1024) .f32) (w : Vec Ideal ⟨3, ![1, 1024, 2048]⟩ .bf16)
    (r : Fin n) (c : Fin 1024) :
    gluTile hb X H Y d w (ix2 r c) = gluRow (fun k => X (ix2 r k)) (fun k => H (ix2 r k)) (fun k => Y (ix2 r k)) (fun k => d (ix2 0 k))
      (fun k q => w (ix3 0 k q)) c := by
  have hz : ∀ q : Fin 2048, matmul (DotDims.plain n 1024 2048) none
      (truncf .bf16 (geluTile (addf Y (mulf (broadcastTo (Sh n 1024) d hb) H))) (by decide))
      (shapeCast (Sh 1024 2048) w (by decide : (⟨3, ![1, 1024, 2048]⟩ : Shape).ShapeCasts (Sh 1024 2048)))
      (constant (Sh n 2048) .f32 0x00000000#32) (ix2 r q)
      = gluCol (fun k => H (ix2 r k)) (fun k => Y (ix2 r k)) (fun k => d (ix2 0 k)) (fun k q => w (ix3 0 k q)) q := fun q =>
    (product_apply _ _ r q).trans (Finset.sum_congr rfl fun k _ => congrArg₂ (fun a b : EReal => a * b)
      ((geluTile_apply _ (ix2 r k)).trans (congrArg (fun a : EReal => gelu (Y (ix2 r k) + a * H (ix2 r k)))
        (broadcastTo_1b_ab_apply d hb r k))) (shapeCast_1ab_ab_apply w _ k q))
  refine congrArg (fun a : EReal => X (ix2 r c) + a) ((gateTile_apply _ r c).trans ?_)
  rw [hz, hz]
end Tile

section Host
open Cert.Reference2Ideal Cert.Reference2Ideal.Gen

/-- The activation on an array. -/
def hostGelu (v : FVec Ideal S32768x1024 .f32) : FVec Ideal S32768x1024 .f32 :=
  mulf v (mulf (fill S32768x1024 bcast_S_S32768x1024 0x3F000000#32) (addf (fill S32768x1024 bcast_S_S32768x1024 0x3F800000#32)
    (Host.tanh (mulf (fill S32768x1024 bcast_S_S32768x1024 0x3F4C422A#32)
      (addf v (mulf (fill S32768x1024 bcast_S_S32768x1024 0x3D372713#32) (mulf (mulf v v) v)))))))

/-- The gate on an array. -/
def hostGate (Z : FVec Ideal S32768x2048 .f32) : FVec Ideal S32768x1024 .f32 :=
  mulf (extractStridedSlice S32768x1024 ![0, 0] Z slices_S32768x2048_S32768x1024_0_0)
    (Host.divf (fill S32768x1024 bcast_S_S32768x1024 0x3F800000#32) (addf (fill S32768x1024 bcast_S_S32768x1024 0x3F800000#32)
      (Host.exp (Host.negf (extractStridedSlice S32768x1024 ![0, 1024] Z slices_S32768x2048_S32768x1024_0_1024)))))

/-- The input of the activation. -/
def hostSkip (H Y : FVec Ideal S32768x1024 .f32) (d : FVec Ideal S1024 .f32) : FVec Ideal S32768x1024 .f32 :=
  addf Y (mulf (broadcastInDim S32768x1024 ![0, 1] bcast_S1x1024_S32768x1024_0_1 (broadcastInDim S1x1024 ![1] bcast_S1024_S1x1024_1 d)) H)

/-- The step on arrays. -/
def hostGlu (X H Y : FVec Ideal S32768x1024 .f32) (d : FVec Ideal S1024 .f32) (w : FVec Ideal S1024x2048 .f32) :
    FVec Ideal S32768x1024 .f32 :=
  addf X (hostGate (Host.dotGeneral dot_S32768x1024_S1024x2048_S32768x2048_1_0_0_1_n_n none (hostGelu (hostSkip H Y d)) w))

theorem hostGelu_apply (v : FVec Ideal S32768x1024 .f32) (r : Fin 32768) (c : Fin 1024) : hostGelu v (ix2 r c) = gelu (v (ix2 r c)) := by
  pointwise [hostGelu, fill]
  simp only [gelu, half, outer, cubic]

theorem hostGate_apply (Z : FVec Ideal S32768x2048 .f32) (r : Fin 32768) (c : Fin 1024) :
    hostGate Z (ix2 r c) = Z (ix2 r ⟨c.val, by omega⟩) * sigmoid (Z (ix2 r ⟨1024 + c.val, by omega⟩)) := by
  pointwise [hostGate, fill]
  simp only [sigmoid]

theorem hostSkip_apply (H Y : FVec Ideal S32768x1024 .f32) (d : FVec Ideal S1024 .f32) (r : Fin 32768) (k : Fin 1024) :
    hostSkip H Y d (ix2 r k) = Y (ix2 r k) + d (ix1 k) * H (ix2 r k) := by
  pointwise [hostSkip]

theorem hostGlu_apply (X H Y : FVec Ideal S32768x1024 .f32) (d : FVec Ideal S1024 .f32) (w : FVec Ideal S1024x2048 .f32)
    (r : Fin 32768) (c : Fin 1024) :
    hostGlu X H Y d w (ix2 r c) = gluRow (fun k => X (ix2 r k)) (fun k => H (ix2 r k)) (fun k => Y (ix2 r k)) (fun k => d (ix1 k))
      (fun k q => w (ix2 k q)) c := by
  have hz : ∀ q : Fin 2048, Host.dotGeneral dot_S32768x1024_S1024x2048_S32768x2048_1_0_0_1_n_n none (hostGelu (hostSkip H Y d)) w (ix2 r q)
      = gluCol (fun k => H (ix2 r k)) (fun k => Y (ix2 r k)) (fun k => d (ix1 k)) (fun k q => w (ix2 k q)) q := fun q =>
    (dotGeneral_plain_apply (m := 32768) (k := 1024) (n := 2048) none _ w r q).trans
      (Finset.sum_congr rfl fun k _ => congrArg (fun a : EReal => a * w (ix2 k q))
        ((hostGelu_apply _ r k).trans (congrArg gelu (hostSkip_apply H Y d r k))))
  refine congrArg (fun a : EReal => X (ix2 r c) + a) ((hostGate_apply _ r c).trans ?_)
  rw [hz, hz]
end Host

end Cert.Ffn

end
-- ==== Proof.Ffn.Kernel2.lean ====
/-
  The second feed-forward of the fourth layer, after the state-space mixer's output step, with the final normalisation: the kernel's output array,
  row by row.
-/
module

public import proofs.«01_k».proof.Proof.Gen.Kernel2Ideal.Value
public import proofs.«01_k».proof.Proof.Ffn.Tile
public import proofs.«01_k».proof.Proof.Ffn.Host
public import proofs.«01_k».proof.Proof.Ffn.Glu
public import proofs.«01_k».proof.Proof.Gen.Reference2Ideal.Read
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Idealize.ShloMosaic.Pipeline (Dat Cfg Window)
open Cert.Kernel2Ideal.Gen Cert.Ffn

theorem fits : Fits 512 :=
  ⟨reduces_S512x1024_S512, shapeCasts_S512_S512x1, broadcasts_S512x1_S512x1024, broadcasts_S1x1024_S512x1024⟩

section
variable {F : FTy → Type} [FloatOps F]

/-- The kernel's first lines are the output step on its tile. -/
theorem step_eq (y h x : Vec F S512x1024 .f32) (d : Vec F S1x1024 .f32) (w : Vec F S1x1024x2048 .bf16) :
    k0_pay2 y d h w x = gluTile fits.brow x h y (shapeCast S1x1024 d shapeCasts_S1x1024_S1x1024) w := rfl

/-- What one grid point leaves in its output block is the output step and the layer on its tile, normalised. -/
theorem out_eq (x0 x1 x2 : Vec F S512x1024 .f32) (x3 : Vec F S1x1024 .f32) (x4 : Vec F S1x1024x2048 .bf16) (x5 : Vec F S1x1024 .f32)
    (x6 : Vec F S1x1x1024x5632 .bf16) (x7 : Vec F S1x1x2816x1024 .bf16) (x8 : Vec F S1x1024 .f32) :
    out0_9 x0 x1 x2 x3 x4 x5 x6 x7 x8
      = normTile fits (ffnTile fits (gluTile fits.brow x0 x1 x2 (shapeCast S1x1024 x3 shapeCasts_S1x1024_S1x1024) x4) (shapeCast S1x1024 x5 shapeCasts_S1x1024_S1x1024) x6 x7)
      (shapeCast S1x1024 x8 shapeCasts_S1x1024_S1x1024) := by
  have e : out0_9 x0 x1 x2 x3 x4 x5 x6 x7 x8 = View.canon [⟨r0_0,
      normTile fits (ffnTile fits (gluTile fits.brow (View.ld x0 r0_0) (View.ld x1 r0_0) (View.ld x2 r0_0) (shapeCast S1x1024 (View.ld x3 r0_1) shapeCasts_S1x1024_S1x1024) (View.ld x4 r0_2)) (shapeCast S1x1024 (View.ld x5 r0_1) shapeCasts_S1x1024_S1x1024) x6 x7)
      (shapeCast S1x1024 (View.ld x8 r0_1) shapeCasts_S1x1024_S1x1024)⟩] := by
    unfold out0_9 k0_pay26 k0_pay25 k0_pay24
    rw [step_eq]
    generalize gluTile (F := F) fits.brow _ _ _ _ _ = X
    rfl
  rw [e, View.canon_cons_unit_lit _ _ _ (by decide), View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x8 (by decide)]
end

theorem index0 : ∀ t : Fin grid0.N, win0_0.index t = ![(grid0.coords t 0).val, 0] := by decide +kernel
theorem index1 : ∀ t : Fin grid0.N, win0_1.index t = ![(grid0.coords t 0).val, 0] := by decide +kernel
theorem index2 : ∀ t : Fin grid0.N, win0_2.index t = ![(grid0.coords t 0).val, 0] := by decide +kernel
theorem index3 : ∀ t : Fin grid0.N, win0_3.index t = ![0, 0] := by decide +kernel
theorem index4 : ∀ t : Fin grid0.N, win0_4.index t = ![1, 0, 0] := by decide +kernel
theorem index5 : ∀ t : Fin grid0.N, win0_5.index t = ![0, 0] := by decide +kernel
theorem index6 : ∀ t : Fin grid0.N, win0_6.index t = ![3, 1, 0, 0] := by decide +kernel
theorem index7 : ∀ t : Fin grid0.N, win0_7.index t = ![3, 1, 0, 0] := by decide +kernel
theorem index8 : ∀ t : Fin grid0.N, win0_8.index t = ![0, 0] := by decide +kernel
theorem index9 : ∀ t : Fin grid0.N, win0_9.index t = ![(grid0.coords t 0).val, 0] := by decide +kernel

variable (m : (ℓ : Loc nD τ sig) → Buf (Elt Ideal) ℓ)

set_option maxHeartbeats 1000000 in
/-- The output array, from the arrays the kernel is launched on. -/
theorem arr_eq (c : Dev nD) :
    (dats m 0 c).arrAt 9 cfg0.N = fun y : S32768x1024.Idx => normRow (ffnRow
      (gluRow (fun k => V m c main_arg0 (ix2 (y 0) k)) (fun k => V m c main_arg1 (ix2 (y 0) k)) (fun k => V m c main_arg2 (ix2 (y 0) k))
        (fun k => V m c main_v10 (ix2 0 k)) (fun k q => V m c main_v11 (ix3 1 k q)))
      (fun k => V m c main_v4 (ix2 0 k)) (fun d j => V m c main_v5 (ix4 3 1 d j)) (fun j k => V m c main_v6 (ix4 3 1 j k)))
      (fun k => V m c main_v7 (ix2 0 k)) (y 1) := by
  refine (dats m 0 c).arrAt_eq_of_covers 9 _ (by decide +kernel) fun t hf y => ?_
  blk_simp
  rw [after0_9]
  have h0 : (grid0.coords t 0).val < 64 := (grid0.coords t 0).isLt
  obtain ⟨row, col, rfl⟩ : ∃ (row : Fin 512) (col : Fin 1024), y = ix2 row col := ⟨y 0, y 1, eq_ix2 y⟩
  have e : (win0_9.blk t).view.emb (ix2 row col) = (ix2 ⟨512 * (grid0.coords t 0).val + row.val, by omega⟩ col : S32768x1024.Idx) := by
    blk_ext [index9 t]
  rw [e, out_eq]
  refine (normTile_apply fits _ _ row col).trans ?_
  have e0 : (fun k : Fin 1024 => iblk m c 0 t (ix2 row k))
      = fun k => V m c main_arg0 (ix2 ⟨512 * (grid0.coords t 0).val + row.val, by omega⟩ k) := funext fun k => by
    blk_ext [iblk, index0 t]
  have e1 : (fun k : Fin 1024 => iblk m c 1 t (ix2 row k))
      = fun k => V m c main_arg1 (ix2 ⟨512 * (grid0.coords t 0).val + row.val, by omega⟩ k) := funext fun k => by
    blk_ext [iblk, index1 t]
  have e2 : (fun k : Fin 1024 => iblk m c 2 t (ix2 row k))
      = fun k => V m c main_arg2 (ix2 ⟨512 * (grid0.coords t 0).val + row.val, by omega⟩ k) := funext fun k => by
    blk_ext [iblk, index2 t]
  have e3 : (fun k : Fin 1024 => shapeCast S1x1024 (iblk m c 3 t) shapeCasts_S1x1024_S1x1024 (ix2 0 k))
      = fun k => V m c main_v10 (ix2 0 k) := funext fun k =>
    (shapeCast_apply _ _ (ix2 0 k) (ix2 0 k) rfl).trans (by blk_ext [iblk, index3 t])
  have e4 : (fun (k : Fin 1024) (q : Fin 2048) => iblk m c 4 t (ix3 0 k q)) = fun k q => V m c main_v11 (ix3 1 k q) :=
    funext fun k => funext fun q => by blk_ext [iblk, index4 t]
  have e5 : (fun k : Fin 1024 => shapeCast S1x1024 (iblk m c 5 t) shapeCasts_S1x1024_S1x1024 (ix2 0 k))
      = fun k => V m c main_v4 (ix2 0 k) := funext fun k =>
    (shapeCast_apply _ _ (ix2 0 k) (ix2 0 k) rfl).trans (by blk_ext [iblk, index5 t])
  have e6 : (fun (d : Fin 1024) (j : Fin 5632) => iblk m c 6 t (ix4 0 0 d j)) = fun d j => V m c main_v5 (ix4 3 1 d j) :=
    funext fun d => funext fun j => by blk_ext [iblk, index6 t]
  have e7 : (fun (j : Fin 2816) (k : Fin 1024) => iblk m c 7 t (ix4 0 0 j k)) = fun j k => V m c main_v6 (ix4 3 1 j k) :=
    funext fun d => funext fun j => by blk_ext [iblk, index7 t]
  have e8 : (fun k : Fin 1024 => shapeCast S1x1024 (iblk m c 8 t) shapeCasts_S1x1024_S1x1024 (ix2 0 k))
      = fun k => V m c main_v7 (ix2 0 k) := funext fun k =>
    (shapeCast_apply _ _ (ix2 0 k) (ix2 0 k) rfl).trans (by blk_ext [iblk, index8 t])
  have ex := funext fun k : Fin 1024 => (gluTile_apply fits.brow (iblk m c 0 t) (iblk m c 1 t) (iblk m c 2 t)
    (shapeCast S1x1024 (iblk m c 3 t) shapeCasts_S1x1024_S1x1024) (iblk m c 4 t) row k).trans
    (congrFun (congr (congr (congr (congr (congrArg gluRow e0) e1) e2) e3) e4) k)
  have ey := funext fun k : Fin 1024 => (ffnTile_apply fits _ _ (iblk m c 6 t) (iblk m c 7 t) row k).trans
    (congrFun (congr (congr (congr (congrArg ffnRow ex) e5) e6) e7) k)
  exact congrFun (congr (congrArg normRow ey) e8) col

theorem V_rows (c : Dev nD) : V m c main_arg0 = m ((c.tc : Thread nD τ).loc main_arg0) := by
  unfold V
  simp only [hostOps0, List.flatten_cons, List.flatten_nil, List.cons_append, List.nil_append]
  after_results_simp

theorem V_input (c : Dev nD) : V m c main_arg1 = m ((c.tc : Thread nD τ).loc main_arg1) := by
  unfold V
  simp only [hostOps0, List.flatten_cons, List.flatten_nil, List.cons_append, List.nil_append]
  after_results_simp

theorem V_state (c : Dev nD) : V m c main_arg2 = m ((c.tc : Thread nD τ).loc main_arg2) := by
  unfold V
  simp only [hostOps0, List.flatten_cons, List.flatten_nil, List.cons_append, List.nil_append]
  after_results_simp

theorem V_skip (c : Dev nD) (k : Fin 1024) : V m c main_v10 (ix2 0 k) = m ((c.tc : Thread nD τ).loc main_arg6) (ix2 1 k) := by
  have e : V m c main_v10 = shapeCast S1x1024 (shapeCast S1024 (extractStridedSlice S1x1024 ![1, 0] (m ((c.tc : Thread nD τ).loc main_arg6))
      slices_S2x1024_S1x1024_1_0) shapeCasts_S1x1024_S1024) shapeCasts_S1024_S1x1024 := by
    unfold V
    simp only [hostOps0, List.flatten_cons, List.flatten_nil, List.cons_append, List.nil_append]
    after_results_simp
    after_results_loop
    rfl
  rw [e]
  generalize m ((c.tc : Thread nD τ).loc main_arg6) = A
  pointwise []

theorem V_glu (c : Dev nD) (i : S2x1024x2048.Idx) : V m c main_v11 i = m ((c.tc : Thread nD τ).loc main_arg7) i := by
  unfold V
  simp only [hostOps0, List.flatten_cons, List.flatten_nil, List.cons_append, List.nil_append]
  after_results_simp
  after_results_loop
  rfl

theorem V_final (c : Dev nD) (k : Fin 1024) : V m c main_v7 (ix2 0 k) = m ((c.tc : Thread nD τ).loc main_arg8) (ix1 k) := by
  have e : V m c main_v7 = shapeCast S1x1024 (m ((c.tc : Thread nD τ).loc main_arg8)) shapeCasts_S1024_S1x1024 := by
    unfold V
    simp only [hostOps0, List.flatten_cons, List.flatten_nil, List.cons_append, List.nil_append]
    after_results_simp
    after_results_loop
    rfl
  rw [e]
  generalize m ((c.tc : Thread nD τ).loc main_arg8) = A
  pointwise []

theorem V_gains (c : Dev nD) (k : Fin 1024) : V m c main_v4 (ix2 0 k) = m ((c.tc : Thread nD τ).loc main_arg3) (ix3 3 2 k) := by
  have e : V m c main_v4 = shapeCast S1x1024 (extractStridedSlice S1x1x1024 ![2, 0, 0] (shapeCast S3x1x1024 (shapeCast S3x1024
      (extractStridedSlice S1x3x1024 ![3, 0, 0] (m ((c.tc : Thread nD τ).loc main_arg3)) slices_S4x3x1024_S1x3x1024_3_0_0)
      shapeCasts_S1x3x1024_S3x1024) shapeCasts_S3x1024_S3x1x1024) slices_S3x1x1024_S1x1x1024_2_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg3) = A
  pointwise []

theorem V_wi (c : Dev nD) (i : S4x2x1024x5632.Idx) : V m c main_v5 i = m ((c.tc : Thread nD τ).loc main_arg4) i := by
  unfold V
  simp only [hostOps0, List.flatten_cons, List.flatten_nil, List.cons_append, List.nil_append]
  after_results_simp
  after_results_loop
  rfl

theorem V_wo (c : Dev nD) (i : S4x2x2816x1024.Idx) : V m c main_v6 i = m ((c.tc : Thread nD τ).loc main_arg5) i := by
  unfold V
  simp only [hostOps0, List.flatten_cons, List.flatten_nil, List.cons_append, List.nil_append]
  after_results_simp
  after_results_loop
  rfl

end Cert.Kernel2Ideal.Ffn

namespace Cert.Reference2Ideal.Ffn

open Idealize.ShloMosaic Idealize.ShloMosaic.TcCoe Idealize.ShloMosaic.Tactic
open Cert.Reference2Ideal.Read Cert.Ffn

/-- The reference's output step, entry by entry. -/
theorem glu_apply (x0 x1 x2 : (⟨S32768x1024, .f32⟩ : BufTy).Contents (Elt Ideal)) (x6 : (⟨S2x1024, .f32⟩ : BufTy).Contents (Elt Ideal))
    (x7 : (⟨S2x1024x2048, .f32⟩ : BufTy).Contents (Elt Ideal)) (r : Fin 32768) (c : Fin 1024) :
    val_main_v31 (F := Ideal) x0 x1 x2 x6 x7 (ix2 r c)
      = gluRow (fun k => x0 (ix2 r k)) (fun k => x1 (ix2 r k)) (fun k => x2 (ix2 r k)) (fun k => x6 (ix2 1 k))
        (fun k q => x7 (ix3 1 k q)) c := by
  have e : val_main_v31 (F := Ideal) x0 x1 x2 x6 x7 = hostGlu x0 x1 x2 (val_main_v1 (F := Ideal) x6) (val_main_v20 (F := Ideal) x7) := rfl
  refine (congrFun e (ix2 r c)).trans ((hostGlu_apply _ _ _ _ _ r c).trans ?_)
  have e3 : (fun k : Fin 1024 => val_main_v1 (F := Ideal) x6 (ix1 k)) = fun k => x6 (ix2 1 k) := funext fun k => by
    pointwise [val_main_v1, val_main_v0]
  have e4 : (fun (k : Fin 1024) (q : Fin 2048) => val_main_v20 (F := Ideal) x7 (ix2 k q)) = fun k q => x7 (ix3 1 k q) :=
    funext fun k => funext fun q => by pointwise [val_main_v20, val_main_v19]
  exact congrFun (congr (congrArg (gluRow _ _ _) e3) e4) c

/-- The reference's layer before the final normalisation, entry by entry. -/
theorem layer_apply (x0 x1 x2 : (⟨S32768x1024, .f32⟩ : BufTy).Contents (Elt Ideal))
    (x3 : (⟨S4x3x1024, .f32⟩ : BufTy).Contents (Elt Ideal)) (x4 : (⟨S4x2x1024x5632, .f32⟩ : BufTy).Contents (Elt Ideal))
    (x5 : (⟨S4x2x2816x1024, .f32⟩ : BufTy).Contents (Elt Ideal)) (x6 : (⟨S2x1024, .f32⟩ : BufTy).Contents (Elt Ideal))
    (x7 : (⟨S2x1024x2048, .f32⟩ : BufTy).Contents (Elt Ideal))
    (y : S32768x1024.Idx) :
    val_main_v59 (F := Ideal) x0 x1 x2 x3 x4 x5 x6 x7 y = ffnRow
      (gluRow (fun k => x0 (ix2 (y 0) k)) (fun k => x1 (ix2 (y 0) k)) (fun k => x2 (ix2 (y 0) k)) (fun k => x6 (ix2 1 k))
        (fun k q => x7 (ix3 1 k q)))
      (fun k => x3 (ix3 3 2 k)) (fun d j => x4 (ix4 3 1 d j)) (fun j k => x5 (ix4 3 1 j k)) (y 1) := by
  have e : val_main_v59 (F := Ideal) x0 x1 x2 x3 x4 x5 x6 x7 = hostFfn (val_main_v31 (F := Ideal) x0 x1 x2 x6 x7) (val_main_v33 (F := Ideal) x3)
    (val_main_v48 (F := Ideal) x4) (val_main_v50 (F := Ideal) x5) := rfl
  obtain ⟨r, c, rfl⟩ : ∃ (r : Fin 32768) (c : Fin 1024), y = ix2 r c := ⟨y 0, y 1, eq_ix2 y⟩
  refine (congrFun e (ix2 r c)).trans ((hostFfn_apply _ _ _ _ r c).trans ?_)
  have e0 := funext fun k : Fin 1024 => glu_apply x0 x1 x2 x6 x7 r k
  have e1 : (fun k : Fin 1024 => val_main_v33 (F := Ideal) x3 (ix1 k)) = fun k => x3 (ix3 3 2 k) := funext fun k => by
    pointwise [val_main_v33, val_main_v32]
  have e2 : (fun (d : Fin 1024) (j : Fin 5632) => val_main_v48 (F := Ideal) x4 (ix2 d j)) = fun d j => x4 (ix4 3 1 d j) :=
    funext fun d => funext fun j => by pointwise [val_main_v48, val_main_v47]
  have e3 : (fun (j : Fin 2816) (k : Fin 1024) => val_main_v50 (F := Ideal) x5 (ix2 j k)) = fun j k => x5 (ix4 3 1 j k) :=
    funext fun d => funext fun j => by pointwise [val_main_v50, val_main_v49]
  exact congrFun (congr (congr (congr (congrArg ffnRow e0) e1) e2) e3) c

/-- The reference's result, entry by entry. -/
theorem result_apply (x0 x1 x2 : (⟨S32768x1024, .f32⟩ : BufTy).Contents (Elt Ideal))
    (x3 : (⟨S4x3x1024, .f32⟩ : BufTy).Contents (Elt Ideal)) (x4 : (⟨S4x2x1024x5632, .f32⟩ : BufTy).Contents (Elt Ideal))
    (x5 : (⟨S4x2x2816x1024, .f32⟩ : BufTy).Contents (Elt Ideal)) (x6 : (⟨S2x1024, .f32⟩ : BufTy).Contents (Elt Ideal))
    (x7 : (⟨S2x1024x2048, .f32⟩ : BufTy).Contents (Elt Ideal))
    (x8 : (⟨S1024, .f32⟩ : BufTy).Contents (Elt Ideal)) (y : S32768x1024.Idx) :
    val_main_v72 (F := Ideal) x0 x1 x2 x3 x4 x5 x6 x7 x8 y = normRow (ffnRow
      (gluRow (fun k => x0 (ix2 (y 0) k)) (fun k => x1 (ix2 (y 0) k)) (fun k => x2 (ix2 (y 0) k)) (fun k => x6 (ix2 1 k))
        (fun k q => x7 (ix3 1 k q)))
      (fun k => x3 (ix3 3 2 k)) (fun d j => x4 (ix4 3 1 d j)) (fun j k => x5 (ix4 3 1 j k)))
      (fun k => x8 (ix1 k)) (y 1) := by
  have e : val_main_v72 (F := Ideal) x0 x1 x2 x3 x4 x5 x6 x7 x8 = hostNorm (val_main_v59 (F := Ideal) x0 x1 x2 x3 x4 x5 x6 x7) x8 := rfl
  obtain ⟨r, c, rfl⟩ : ∃ (r : Fin 32768) (c : Fin 1024), y = ix2 r c := ⟨y 0, y 1, eq_ix2 y⟩
  refine (congrFun e (ix2 r c)).trans ((hostNorm_apply _ _ r c).trans ?_)
  exact congrFun (congrArg (normRow · _) (funext fun k => layer_apply x0 x1 x2 x3 x4 x5 x6 x7 (ix2 r k))) c

end Cert.Reference2Ideal.Ffn

end
-- ==== Proof.Ffn.Kernel3.lean ====
/-
  The second feed-forward of the second layer, after the state-space mixer's output step: the kernel's output array,
  row by row.
-/
module

public import proofs.«01_k».proof.Proof.Gen.Kernel3Ideal.Value
public import proofs.«01_k».proof.Proof.Ffn.Tile
public import proofs.«01_k».proof.Proof.Ffn.Host
public import proofs.«01_k».proof.Proof.Ffn.Glu
public import proofs.«01_k».proof.Proof.Gen.Reference3Ideal.Read
public import Idealize.ShloMosaic.Lib.Pipeline.ValueKit

@[expose] public section

set_option maxRecDepth 16384

noncomputable section

namespace Cert.Kernel3Ideal.Ffn

open Idealize.ShloMosaic Idealize.ShloMosaic.TcCoe Idealize.ShloMosaic.Tactic
open Idealize.ShloMosaic.Pipeline (Dat Cfg Window)
open Cert.Kernel3Ideal.Gen Cert.Ffn

theorem fits : Fits 512 :=
  ⟨reduces_S512x1024_S512, shapeCasts_S512_S512x1, broadcasts_S512x1_S512x1024, broadcasts_S1x1024_S512x1024⟩

section
variable {F : FTy → Type} [FloatOps F]

/-- The kernel's first lines are the output step on its tile. -/
theorem step_eq (y h x : Vec F S512x1024 .f32) (d : Vec F S1x1024 .f32) (w : Vec F S1x1024x2048 .bf16) :
    k0_pay2 y d h w x = gluTile fits.brow x h y (shapeCast S1x1024 d shapeCasts_S1x1024_S1x1024) w := rfl

/-- What one grid point leaves in its output block is the output step and the layer on its tile. -/
theorem out_eq (x0 x1 x2 : Vec F S512x1024 .f32) (x3 : Vec F S1x1024 .f32) (x4 : Vec F S1x1024x2048 .bf16) (x5 : Vec F S1x1024 .f32)
    (x6 : Vec F S1x1x1024x5632 .bf16) (x7 : Vec F S1x1x2816x1024 .bf16) (x8 : Vec F S1x1024 .f32) :
    out0_9 x0 x1 x2 x3 x4 x5 x6 x7 x8
      = ffnTile fits (gluTile fits.brow x0 x1 x2 (shapeCast S1x1024 x3 shapeCasts_S1x1024_S1x1024) x4) (shapeCast S1x1024 x5 shapeCasts_S1x1024_S1x1024) x6 x7 := by
  have e : out0_9 x0 x1 x2 x3 x4 x5 x6 x7 x8 = View.canon [⟨r0_0,
      ffnTile fits (gluTile fits.brow (View.ld x0 r0_0) (View.ld x1 r0_0) (View.ld x2 r0_0) (shapeCast S1x1024 (View.ld x3 r0_1) shapeCasts_S1x1024_S1x1024) (View.ld x4 r0_2)) (shapeCast S1x1024 (View.ld x5 r0_1) shapeCasts_S1x1024_S1x1024) x6 x7⟩] := by
    unfold out0_9 k0_pay26 k0_pay25 k0_pay24
    rw [step_eq]
    generalize gluTile (F := F) fits.brow _ _ _ _ _ = X
    rfl
  rw [e, View.canon_cons_unit_lit _ _ _ (by decide), View.ld_unit_lit _ x0 (by decide), View.ld_unit_lit _ x1 (by decide), View.ld_unit_lit _ x2 (by decide), View.ld_unit_lit _ x3 (by decide), View.ld_unit_lit _ x4 (by decide), View.ld_unit_lit _ x5 (by decide)]
end

theorem index0 : ∀ t : Fin grid0.N, win0_0.index t = ![(grid0.coords t 0).val, 0] := by decide +kernel
theorem index1 : ∀ t : Fin grid0.N, win0_1.index t = ![(grid0.coords t 0).val, 0] := by decide +kernel
theorem index2 : ∀ t : Fin grid0.N, win0_2.index t = ![(grid0.coords t 0).val, 0] := by decide +kernel
theorem index3 : ∀ t : Fin grid0.N, win0_3.index t = ![0, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![1, 1, 0, 0] := by decide +kernel
theorem index7 : ∀ t : Fin grid0.N, win0_7.index t = ![1, 1, 0, 0] := by decide +kernel
theorem index9 : ∀ t : Fin grid0.N, win0_9.index t = ![(grid0.coords t 0).val, 0] := by decide +kernel

variable (m : (ℓ : Loc nD τ sig) → Buf (Elt Ideal) ℓ)

set_option maxHeartbeats 1000000 in
/-- The output array, from the arrays the kernel is launched on. -/
theorem arr_eq (c : Dev nD) :
    (dats m 0 c).arrAt 9 cfg0.N = fun y : S32768x1024.Idx => ffnRow
      (gluRow (fun k => V m c main_arg0 (ix2 (y 0) k)) (fun k => V m c main_arg1 (ix2 (y 0) k)) (fun k => V m c main_arg2 (ix2 (y 0) k))
        (fun k => V m c main_v10 (ix2 0 k)) (fun k q => V m c main_v11 (ix3 0 k q)))
      (fun k => V m c main_v4 (ix2 0 k)) (fun d j => V m c main_v5 (ix4 1 1 d j)) (fun j k => V m c main_v6 (ix4 1 1 j k)) (y 1) := by
  refine (dats m 0 c).arrAt_eq_of_covers 9 _ (by decide +kernel) fun t hf y => ?_
  blk_simp
  rw [after0_9]
  have h0 : (grid0.coords t 0).val < 64 := (grid0.coords t 0).isLt
  obtain ⟨row, col, rfl⟩ : ∃ (row : Fin 512) (col : Fin 1024), y = ix2 row col := ⟨y 0, y 1, eq_ix2 y⟩
  have e : (win0_9.blk t).view.emb (ix2 row col) = (ix2 ⟨512 * (grid0.coords t 0).val + row.val, by omega⟩ col : S32768x1024.Idx) := by
    blk_ext [index9 t]
  rw [e, out_eq]
  refine (ffnTile_apply fits _ _ _ _ row col).trans ?_
  have e0 : (fun k : Fin 1024 => iblk m c 0 t (ix2 row k))
      = fun k => V m c main_arg0 (ix2 ⟨512 * (grid0.coords t 0).val + row.val, by omega⟩ k) := funext fun k => by
    blk_ext [iblk, index0 t]
  have e1 : (fun k : Fin 1024 => iblk m c 1 t (ix2 row k))
      = fun k => V m c main_arg1 (ix2 ⟨512 * (grid0.coords t 0).val + row.val, by omega⟩ k) := funext fun k => by
    blk_ext [iblk, index1 t]
  have e2 : (fun k : Fin 1024 => iblk m c 2 t (ix2 row k))
      = fun k => V m c main_arg2 (ix2 ⟨512 * (grid0.coords t 0).val + row.val, by omega⟩ k) := funext fun k => by
    blk_ext [iblk, index2 t]
  have e3 : (fun k : Fin 1024 => shapeCast S1x1024 (iblk m c 3 t) shapeCasts_S1x1024_S1x1024 (ix2 0 k))
      = fun k => V m c main_v10 (ix2 0 k) := funext fun k =>
    (shapeCast_apply _ _ (ix2 0 k) (ix2 0 k) rfl).trans (by blk_ext [iblk, index3 t])
  have e4 : (fun (k : Fin 1024) (q : Fin 2048) => iblk m c 4 t (ix3 0 k q)) = fun k q => V m c main_v11 (ix3 0 k q) :=
    funext fun k => funext fun q => by blk_ext [iblk, index4 t]
  have e5 : (fun k : Fin 1024 => shapeCast S1x1024 (iblk m c 5 t) shapeCasts_S1x1024_S1x1024 (ix2 0 k))
      = fun k => V m c main_v4 (ix2 0 k) := funext fun k =>
    (shapeCast_apply _ _ (ix2 0 k) (ix2 0 k) rfl).trans (by blk_ext [iblk, index5 t])
  have e6 : (fun (d : Fin 1024) (j : Fin 5632) => iblk m c 6 t (ix4 0 0 d j)) = fun d j => V m c main_v5 (ix4 1 1 d j) :=
    funext fun d => funext fun j => by blk_ext [iblk, index6 t]
  have e7 : (fun (j : Fin 2816) (k : Fin 1024) => iblk m c 7 t (ix4 0 0 j k)) = fun j k => V m c main_v6 (ix4 1 1 j k) :=
    funext fun d => funext fun j => by blk_ext [iblk, index7 t]
  have ex := funext fun k : Fin 1024 => (gluTile_apply fits.brow (iblk m c 0 t) (iblk m c 1 t) (iblk m c 2 t)
    (shapeCast S1x1024 (iblk m c 3 t) shapeCasts_S1x1024_S1x1024) (iblk m c 4 t) row k).trans
    (congrFun (congr (congr (congr (congr (congrArg gluRow e0) e1) e2) e3) e4) k)
  exact congrFun (congr (congr (congr (congrArg ffnRow ex) e5) e6) e7) col

theorem V_rows (c : Dev nD) : V m c main_arg0 = m ((c.tc : Thread nD τ).loc main_arg0) := by
  unfold V
  simp only [hostOps0, List.flatten_cons, List.flatten_nil, List.cons_append, List.nil_append]
  after_results_simp

theorem V_input (c : Dev nD) : V m c main_arg1 = m ((c.tc : Thread nD τ).loc main_arg1) := by
  unfold V
  simp only [hostOps0, List.flatten_cons, List.flatten_nil, List.cons_append, List.nil_append]
  after_results_simp

theorem V_state (c : Dev nD) : V m c main_arg2 = m ((c.tc : Thread nD τ).loc main_arg2) := by
  unfold V
  simp only [hostOps0, List.flatten_cons, List.flatten_nil, List.cons_append, List.nil_append]
  after_results_simp

theorem V_skip (c : Dev nD) (k : Fin 1024) : V m c main_v10 (ix2 0 k) = m ((c.tc : Thread nD τ).loc main_arg6) (ix2 0 k) := by
  have e : V m c main_v10 = shapeCast S1x1024 (shapeCast S1024 (extractStridedSlice S1x1024 ![0, 0] (m ((c.tc : Thread nD τ).loc main_arg6))
      slices_S2x1024_S1x1024_0_0) shapeCasts_S1x1024_S1024) shapeCasts_S1024_S1x1024 := by
    unfold V
    simp only [hostOps0, List.flatten_cons, List.flatten_nil, List.cons_append, List.nil_append]
    after_results_simp
    after_results_loop
    rfl
  rw [e]
  generalize m ((c.tc : Thread nD τ).loc main_arg6) = A
  pointwise []

theorem V_glu (c : Dev nD) (i : S2x1024x2048.Idx) : V m c main_v11 i = m ((c.tc : Thread nD τ).loc main_arg7) i := by
  unfold V
  simp only [hostOps0, List.flatten_cons, List.flatten_nil, List.cons_append, List.nil_append]
  after_results_simp
  after_results_loop
  rfl

theorem V_gains (c : Dev nD) (k : Fin 1024) : V m c main_v4 (ix2 0 k) = m ((c.tc : Thread nD τ).loc main_arg3) (ix3 1 2 k) := by
  have e : V m c main_v4 = shapeCast S1x1024 (extractStridedSlice S1x1x1024 ![2, 0, 0] (shapeCast S3x1x1024 (shapeCast S3x1024
      (extractStridedSlice S1x3x1024 ![1, 0, 0] (m ((c.tc : Thread nD τ).loc main_arg3)) slices_S4x3x1024_S1x3x1024_1_0_0)
      shapeCasts_S1x3x1024_S3x1024) shapeCasts_S3x1024_S3x1x1024) slices_S3x1x1024_S1x1x1024_2_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg3) = A
  pointwise []

theorem V_wi (c : Dev nD) (i : S4x2x1024x5632.Idx) : V m c main_v5 i = m ((c.tc : Thread nD τ).loc main_arg4) i := by
  unfold V
  simp only [hostOps0, List.flatten_cons, List.flatten_nil, List.cons_append, List.nil_append]
  after_results_simp
  after_results_loop
  rfl

theorem V_wo (c : Dev nD) (i : S4x2x2816x1024.Idx) : V m c main_v6 i = m ((c.tc : Thread nD τ).loc main_arg5) i := by
  unfold V
  simp only [hostOps0, List.flatten_cons, List.flatten_nil, List.cons_append, List.nil_append]
  after_results_simp
  after_results_loop
  rfl

end Cert.Kernel3Ideal.Ffn

namespace Cert.Reference3Ideal.Ffn

open Idealize.ShloMosaic Idealize.ShloMosaic.TcCoe Idealize.ShloMosaic.Tactic
open Cert.Reference3Ideal.Read Cert.Ffn

/-- The reference's output step, entry by entry. -/
theorem glu_apply (x0 x1 x2 : (⟨S32768x1024, .f32⟩ : BufTy).Contents (Elt Ideal)) (x6 : (⟨S2x1024, .f32⟩ : BufTy).Contents (Elt Ideal))
    (x7 : (⟨S2x1024x2048, .f32⟩ : BufTy).Contents (Elt Ideal)) (r : Fin 32768) (c : Fin 1024) :
    val_main_v31 (F := Ideal) x0 x1 x2 x6 x7 (ix2 r c)
      = gluRow (fun k => x0 (ix2 r k)) (fun k => x1 (ix2 r k)) (fun k => x2 (ix2 r k)) (fun k => x6 (ix2 0 k))
        (fun k q => x7 (ix3 0 k q)) c := by
  have e : val_main_v31 (F := Ideal) x0 x1 x2 x6 x7 = hostGlu x0 x1 x2 (val_main_v1 (F := Ideal) x6) (val_main_v20 (F := Ideal) x7) := rfl
  refine (congrFun e (ix2 r c)).trans ((hostGlu_apply _ _ _ _ _ r c).trans ?_)
  have e3 : (fun k : Fin 1024 => val_main_v1 (F := Ideal) x6 (ix1 k)) = fun k => x6 (ix2 0 k) := funext fun k => by
    pointwise [val_main_v1, val_main_v0]
  have e4 : (fun (k : Fin 1024) (q : Fin 2048) => val_main_v20 (F := Ideal) x7 (ix2 k q)) = fun k q => x7 (ix3 0 k q) :=
    funext fun k => funext fun q => by pointwise [val_main_v20, val_main_v19]
  exact congrFun (congr (congrArg (gluRow _ _ _) e3) e4) c

/-- The reference's result, entry by entry. -/
theorem result_apply (x0 x1 x2 : (⟨S32768x1024, .f32⟩ : BufTy).Contents (Elt Ideal))
    (x3 : (⟨S4x3x1024, .f32⟩ : BufTy).Contents (Elt Ideal)) (x4 : (⟨S4x2x1024x5632, .f32⟩ : BufTy).Contents (Elt Ideal))
    (x5 : (⟨S4x2x2816x1024, .f32⟩ : BufTy).Contents (Elt Ideal)) (x6 : (⟨S2x1024, .f32⟩ : BufTy).Contents (Elt Ideal))
    (x7 : (⟨S2x1024x2048, .f32⟩ : BufTy).Contents (Elt Ideal))
    (y : S32768x1024.Idx) :
    val_main_v59 (F := Ideal) x0 x1 x2 x3 x4 x5 x6 x7 y = ffnRow
      (gluRow (fun k => x0 (ix2 (y 0) k)) (fun k => x1 (ix2 (y 0) k)) (fun k => x2 (ix2 (y 0) k)) (fun k => x6 (ix2 0 k))
        (fun k q => x7 (ix3 0 k q)))
      (fun k => x3 (ix3 1 2 k)) (fun d j => x4 (ix4 1 1 d j)) (fun j k => x5 (ix4 1 1 j k)) (y 1) := by
  have e : val_main_v59 (F := Ideal) x0 x1 x2 x3 x4 x5 x6 x7 = hostFfn (val_main_v31 (F := Ideal) x0 x1 x2 x6 x7) (val_main_v33 (F := Ideal) x3)
    (val_main_v48 (F := Ideal) x4) (val_main_v50 (F := Ideal) x5) := rfl
  obtain ⟨r, c, rfl⟩ : ∃ (r : Fin 32768) (c : Fin 1024), y = ix2 r c := ⟨y 0, y 1, eq_ix2 y⟩
  refine (congrFun e (ix2 r c)).trans ((hostFfn_apply _ _ _ _ r c).trans ?_)
  have e0 := funext fun k : Fin 1024 => glu_apply x0 x1 x2 x6 x7 r k
  have e1 : (fun k : Fin 1024 => val_main_v33 (F := Ideal) x3 (ix1 k)) = fun k => x3 (ix3 1 2 k) := funext fun k => by
    pointwise [val_main_v33, val_main_v32]
  have e2 : (fun (d : Fin 1024) (j : Fin 5632) => val_main_v48 (F := Ideal) x4 (ix2 d j)) = fun d j => x4 (ix4 1 1 d j) :=
    funext fun d => funext fun j => by pointwise [val_main_v48, val_main_v47]
  have e3 : (fun (j : Fin 2816) (k : Fin 1024) => val_main_v50 (F := Ideal) x5 (ix2 j k)) = fun j k => x5 (ix4 1 1 j k) :=
    funext fun d => funext fun j => by pointwise [val_main_v50, val_main_v49]
  exact congrFun (congr (congr (congr (congrArg ffnRow e0) e1) e2) e3) c

end Cert.Reference3Ideal.Ffn

end
-- ==== Proof.Ffn.Mix.lean ====
/-
  The output projection of the mixers that a feed-forward kernel begins with: two halves of 512 columns times one weight
  matrix, added to the row. On one row, on a tile of the kernel, and on whole arrays as the reference writes it.
-/
module

public import proofs.«01_k».proof.Proof.Gen.Reference4Ideal.Read
public import proofs.«01_k».proof.Proof.Ffn.Tile
public import proofs.«01_k».proof.Proof.Ffn.Host

@[expose] public section

set_option maxRecDepth 16384

noncomputable section

namespace Cert.Ffn

open Idealize.ShloMosaic Idealize.ShloMosaic.TcCoe Idealize.ShloMosaic.Tactic
open Idealize.ShloMosaic.ValueIdx (shapeCast_1ab_ab_apply)
open Idealize.ShloMosaic.StackMember (dotGeneral_plain_apply)

/-- The row with the projection of the two halves added. -/
def mixRow (x : Fin 1024 → EReal) (a b : Fin 512 → EReal) (w : Fin 1024 → Fin 1024 → EReal) (c : Fin 1024) : EReal :=
  x c + ∑ k : Fin 512, a k * w ⟨k.val, by omega⟩ c + ∑ k : Fin 512, b k * w ⟨512 + k.val, by omega⟩ c

section Tile
variable {n : Nat} {F : FTy → Type} [FloatOps F]

/-- 512 rows of the weights, from row `o` on. -/
def mixRows (w : Vec F ⟨3, ![1, 1024, 1024]⟩ .bf16) (o : Nat) (ho : o ≤ 512) : FVec F (Sh 512 1024) .bf16 :=
  shapeCast (Sh 512 1024) (View.ld w (Rect.unit (s := ⟨3, ![1, 1024, 1024]⟩) ![0, o, 0] ![1, 512, 1024] (fun a => match a with
    | ⟨0, _⟩ => by show 0 + 1 ≤ 1; omega
    | ⟨1, _⟩ => by show o + 512 ≤ 1024; omega
    | ⟨2, _⟩ => by show 0 + 1024 ≤ 1024; omega))) (by decide : (⟨3, ![1, 512, 1024]⟩ : Shape).ShapeCasts (Sh 512 1024))

/-- The projection on a tile. -/
def mixTile (X : FVec F (Sh n 1024) .f32) (a b : FVec F (Sh n 512) .bf16) (w : Vec F ⟨3, ![1, 1024, 1024]⟩ .bf16) : FVec F (Sh n 1024) .f32 :=
  addf (addf X (matmul (DotDims.plain n 512 1024) none a (mixRows w 0 (by omega)) (constant (Sh n 1024) .f32 0x00000000#32)))
    (matmul (DotDims.plain n 512 1024) none b (mixRows w 512 (by omega)) (constant (Sh n 1024) .f32 0x00000000#32))

theorem mixRows_apply (w : Vec Ideal ⟨3, ![1, 1024, 1024]⟩ .bf16) (o : Nat) (ho : o ≤ 512) (k : Fin 512) (c : Fin 1024) :
    mixRows w o ho (ix2 k c) = w (ix3 0 ⟨o + k.val, by omega⟩ c) := by
  refine (shapeCast_1ab_ab_apply _ _ k c).trans (View.ld_unit_apply_of w _ _ _ _ _ fun a => ?_)
  match a with
  | ⟨0, _⟩ => rfl
  | ⟨1, _⟩ => rfl
  | ⟨2, _⟩ => exact (Nat.zero_add _).symm

theorem mixTile_apply (X : FVec Ideal (Sh n 1024) .f32) (a b : FVec Ideal (Sh n 512) .bf16) (w : Vec Ideal ⟨3, ![1, 1024, 1024]⟩ .bf16)
    (r : Fin n) (c : Fin 1024) :
    mixTile X a b w (ix2 r c) = mixRow (fun k => X (ix2 r k)) (fun k => a (ix2 r k)) (fun k => b (ix2 r k)) (fun k q => w (ix3 0 k q)) c := by
  refine congrArg₂ (fun p q : EReal => X (ix2 r c) + p + q)
    ((product_apply a _ r c).trans (Finset.sum_congr rfl fun k _ => congrArg (fun v : EReal => a (ix2 r k) * v) ?_))
    ((product_apply b _ r c).trans (Finset.sum_congr rfl fun k _ => congrArg (fun v : EReal => b (ix2 r k) * v) (mixRows_apply w 512 _ k c)))
  refine (mixRows_apply w 0 _ k c).trans (congrArg w (congrArg (ix3 0 · c) (Fin.ext (Nat.zero_add _))))
end Tile

section Host
open Cert.Reference4Ideal Cert.Reference4Ideal.Gen

/-- The two halves side by side. -/
def hostJoin (a b : FVec Ideal S32768x512 .f32) : FVec Ideal S32768x1024 .f32 :=
  concatenate S32768x1024 1 [⟨S32768x512, a⟩, ⟨S32768x512, b⟩] concatenates_S32768x512_S32768x512_S32768x1024_d1

/-- The projection on arrays. -/
def hostMix (X : FVec Ideal S32768x1024 .f32) (a b : FVec Ideal S32768x512 .f32) (w : FVec Ideal S1024x1024 .f32) : FVec Ideal S32768x1024 .f32 :=
  addf X (Host.dotGeneral dot_S32768x1024_S1024x1024_S32768x1024_1_0_0_1_n_n none (hostJoin a b) w)

theorem hostJoin_apply (a b : FVec Ideal S32768x512 .f32) (r : Fin 32768) (k : Fin 1024) :
    hostJoin a b (ix2 r k) = if h : k.val < 512 then a (ix2 r ⟨k.val, h⟩) else b (ix2 r ⟨k.val - 512, by omega⟩) := by
  pointwise [hostJoin]

theorem hostMix_apply (X : FVec Ideal S32768x1024 .f32) (a b : FVec Ideal S32768x512 .f32) (w : FVec Ideal S1024x1024 .f32)
    (r : Fin 32768) (c : Fin 1024) :
    hostMix X a b w (ix2 r c) = mixRow (fun k => X (ix2 r k)) (fun k => a (ix2 r k)) (fun k => b (ix2 r k)) (fun k q => w (ix2 k q)) c := by
  unfold mixRow
  rw [add_assoc]
  refine congrArg (fun v : EReal => X (ix2 r c) + v)
    ((dotGeneral_plain_apply (m := 32768) (k := 1024) (n := 1024) none _ w r c).trans ((Fin.sum_univ_add (a := 512) (b := 512) _).trans ?_))
  refine congrArg₂ (fun p q : EReal => p + q) (Finset.sum_congr rfl fun k _ => ?_) (Finset.sum_congr rfl fun k _ => ?_)
  · refine congrArg₂ (fun p q : EReal => p * q) ((hostJoin_apply a b r _).trans (dif_pos k.isLt)) rfl
  · refine congrArg₂ (fun p q : EReal => p * q) ((hostJoin_apply a b r _).trans ((dif_neg (by show ¬ 512 + k.val < 512; omega)).trans ?_)) rfl
    exact congrArg b (congrArg (ix2 r) (Fin.ext (Nat.add_sub_cancel_left 512 k.val)))
end Host

end Cert.Ffn

end
-- ==== Proof.Ffn.Kernel4.lean ====
/-
  The second feed-forward of the first layer, after the mixer's output projection: the kernel's output array, row by row.
-/
module

public import proofs.«01_k».proof.Proof.Gen.Kernel4Ideal.Value
public import proofs.«01_k».proof.Proof.Ffn.Tile
public import proofs.«01_k».proof.Proof.Ffn.Host
public import proofs.«01_k».proof.Proof.Ffn.Mix
public import Idealize.ShloMosaic.Lib.Pipeline.ValueKit

@[expose] public section

set_option maxRecDepth 16384

noncomputable section

namespace Cert.Kernel4Ideal.Ffn

open Idealize.ShloMosaic Idealize.ShloMosaic.TcCoe Idealize.ShloMosaic.Tactic
open Idealize.ShloMosaic.Pipeline (Dat Cfg Window)
open Cert.Kernel4Ideal.Gen Cert.Ffn

theorem fits : Fits 1024 :=
  ⟨reduces_S1024x1024_S1024, shapeCasts_S1024_S1024x1, broadcasts_S1024x1_S1024x1024, broadcasts_S1x1024_S1024x1024⟩

section
variable {F : FTy → Type} [FloatOps F]

/-- What one grid point leaves in its output block is the projection and the layer on its tile. -/
theorem out_eq (x0 : Vec F S1024x1024 .f32) (x1 x2 : Vec F S1024x512 .bf16) (x3 : Vec F S1x1024x1024 .bf16) (x4 : Vec F S1x1024 .f32)
    (x5 : Vec F S1x1x1024x5632 .bf16) (x6 : Vec F S1x1x2816x1024 .bf16) (x7 : Vec F S1x1024 .f32) :
    out0_8 x0 x1 x2 x3 x4 x5 x6 x7
      = ffnTile fits (mixTile x0 x1 x2 x3) (shapeCast S1x1024 x4 shapeCasts_S1x1024_S1x1024) x5 x6 := by
  have e : out0_8 x0 x1 x2 x3 x4 x5 x6 x7 = View.canon [⟨r0_0, ffnTile fits
      (mixTile (View.ld x0 r0_0) (View.ld x1 r0_1) (View.ld x2 r0_1) x3)
      (shapeCast S1x1024 (View.ld x4 r0_4) shapeCasts_S1x1024_S1x1024) x5 x6⟩] := by unfold out0_8; rfl
  rw [e, View.canon_cons_unit_lit _ _ _ (by decide), View.ld_unit_lit _ x0 (by decide), View.ld_unit_lit _ x1 (by decide),
    View.ld_unit_lit _ x2 (by decide), View.ld_unit_lit _ x4 (by decide)]
end

theorem index0 : ∀ t : Fin grid0.N, win0_0.index t = ![(grid0.coords t 0).val, 0] := by decide +kernel
theorem index1 : ∀ t : Fin grid0.N, win0_1.index t = ![(grid0.coords t 0).val, 0] := by decide +kernel
theorem index2 : ∀ t : Fin grid0.N, win0_2.index t = ![(grid0.coords t 0).val, 0] := by decide +kernel
theorem index3 : ∀ t : Fin grid0.N, win0_3.index t = ![0, 0, 0] := by decide +kernel
theorem index4 : ∀ t : Fin grid0.N, win0_4.index t = ![0, 0] := by decide +kernel
theorem index5 : ∀ t : Fin grid0.N, win0_5.index t = ![0, 1, 0, 0] := by decide +kernel
theorem index6 : ∀ t : Fin grid0.N, win0_6.index t = ![0, 1, 0, 0] := by decide +kernel
theorem index8 : ∀ t : Fin grid0.N, win0_8.index t = ![(grid0.coords t 0).val, 0] := by decide +kernel

variable (m : (ℓ : Loc nD τ sig) → Buf (Elt Ideal) ℓ)

/-- The output array, from the arrays the kernel is launched on. -/
theorem arr_eq (c : Dev nD) :
    (dats m 0 c).arrAt 8 cfg0.N = fun y : S32768x1024.Idx => ffnRow
      (mixRow (fun k => V m c main_arg0 (ix2 (y 0) k)) (fun k => V m c main_arg1 (ix2 (y 0) k)) (fun k => V m c main_arg2 (ix2 (y 0) k))
        (fun k q => V m c main_v8 (ix3 0 k q)))
      (fun k => V m c main_v4 (ix2 0 k)) (fun d j => V m c main_v5 (ix4 0 1 d j)) (fun j k => V m c main_v6 (ix4 0 1 j k)) (y 1) := by
  refine (dats m 0 c).arrAt_eq_of_covers 8 _ (by decide +kernel) fun t hf y => ?_
  blk_simp
  rw [after0_8]
  have h0 : (grid0.coords t 0).val < 32 := (grid0.coords t 0).isLt
  obtain ⟨row, col, rfl⟩ : ∃ (row : Fin 1024) (col : Fin 1024), y = ix2 row col := ⟨y 0, y 1, eq_ix2 y⟩
  have e : (win0_8.blk t).view.emb (ix2 row col) = (ix2 ⟨1024 * (grid0.coords t 0).val + row.val, by omega⟩ col : S32768x1024.Idx) := by
    blk_ext [index8 t]
  rw [e, out_eq]
  refine (ffnTile_apply fits _ _ _ _ row col).trans ?_
  have e0 : (fun k : Fin 1024 => iblk m c 0 t (ix2 row k))
      = fun k => V m c main_arg0 (ix2 ⟨1024 * (grid0.coords t 0).val + row.val, by omega⟩ k) := funext fun k => by
    blk_ext [iblk, index0 t]
  have e1 : (fun k : Fin 512 => iblk m c 1 t (ix2 row k))
      = fun k => V m c main_arg1 (ix2 ⟨1024 * (grid0.coords t 0).val + row.val, by omega⟩ k) := funext fun k => by
    blk_ext [iblk, index1 t]
  have e2 : (fun k : Fin 512 => iblk m c 2 t (ix2 row k))
      = fun k => V m c main_arg2 (ix2 ⟨1024 * (grid0.coords t 0).val + row.val, by omega⟩ k) := funext fun k => by
    blk_ext [iblk, index2 t]
  have e3 : (fun (k q : Fin 1024) => iblk m c 3 t (ix3 0 k q)) = fun k q => V m c main_v8 (ix3 0 k q) :=
    funext fun k => funext fun q => by blk_ext [iblk, index3 t]
  have e4 : (fun k : Fin 1024 => shapeCast S1x1024 (iblk m c 4 t) shapeCasts_S1x1024_S1x1024 (ix2 0 k))
      = fun k => V m c main_v4 (ix2 0 k) := funext fun k =>
    (shapeCast_apply _ _ (ix2 0 k) (ix2 0 k) rfl).trans (by blk_ext [iblk, index4 t])
  have e5 : (fun (d : Fin 1024) (j : Fin 5632) => iblk m c 5 t (ix4 0 0 d j)) = fun d j => V m c main_v5 (ix4 0 1 d j) :=
    funext fun d => funext fun j => by blk_ext [iblk, index5 t]
  have e6 : (fun (j : Fin 2816) (k : Fin 1024) => iblk m c 6 t (ix4 0 0 j k)) = fun j k => V m c main_v6 (ix4 0 1 j k) :=
    funext fun d => funext fun j => by blk_ext [iblk, index6 t]
  have ex := funext fun k : Fin 1024 => (mixTile_apply (iblk m c 0 t) (iblk m c 1 t) (iblk m c 2 t) (iblk m c 3 t) row k).trans
    (congrFun (congr (congr (congr (congrArg mixRow e0) e1) e2) e3) k)
  exact congrFun (congr (congr (congr (congrArg ffnRow ex) e4) e5) e6) col

theorem V_rows (c : Dev nD) : V m c main_arg0 = m ((c.tc : Thread nD τ).loc main_arg0) := by
  unfold V
  simp only [hostOps0, List.flatten_cons, List.flatten_nil, List.cons_append, List.nil_append]
  after_results_simp

theorem V_left (c : Dev nD) : V m c main_arg1 = m ((c.tc : Thread nD τ).loc main_arg1) := by
  unfold V
  simp only [hostOps0, List.flatten_cons, List.flatten_nil, List.cons_append, List.nil_append]
  after_results_simp

theorem V_right (c : Dev nD) : V m c main_arg2 = m ((c.tc : Thread nD τ).loc main_arg2) := by
  unfold V
  simp only [hostOps0, List.flatten_cons, List.flatten_nil, List.cons_append, List.nil_append]
  after_results_simp

theorem V_mix (c : Dev nD) (i : S2x1024x1024.Idx) : V m c main_v8 i = m ((c.tc : Thread nD τ).loc main_arg6) i := by
  unfold V
  simp only [hostOps0, List.flatten_cons, List.flatten_nil, List.cons_append, List.nil_append]
  after_results_simp
  after_results_loop
  rfl

theorem V_gains (c : Dev nD) (k : Fin 1024) : V m c main_v4 (ix2 0 k) = m ((c.tc : Thread nD τ).loc main_arg3) (ix3 0 2 k) := by
  have e : V m c main_v4 = shapeCast S1x1024 (extractStridedSlice S1x1x1024 ![2, 0, 0] (shapeCast S3x1x1024 (shapeCast S3x1024
      (extractStridedSlice S1x3x1024 ![0, 0, 0] (m ((c.tc : Thread nD τ).loc main_arg3)) slices_S4x3x1024_S1x3x1024_0_0_0)
      shapeCasts_S1x3x1024_S3x1024) shapeCasts_S3x1024_S3x1x1024) slices_S3x1x1024_S1x1x1024_2_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg3) = A
  pointwise []

theorem V_wi (c : Dev nD) (i : S4x2x1024x5632.Idx) : V m c main_v5 i = m ((c.tc : Thread nD τ).loc main_arg4) i := by
  unfold V
  simp only [hostOps0, List.flatten_cons, List.flatten_nil, List.cons_append, List.nil_append]
  after_results_simp
  after_results_loop
  rfl

theorem V_wo (c : Dev nD) (i : S4x2x2816x1024.Idx) : V m c main_v6 i = m ((c.tc : Thread nD τ).loc main_arg5) i := by
  unfold V
  simp only [hostOps0, List.flatten_cons, List.flatten_nil, List.cons_append, List.nil_append]
  after_results_simp
  after_results_loop
  rfl

end Cert.Kernel4Ideal.Ffn

namespace Cert.Reference4Ideal.Ffn

open Idealize.ShloMosaic Idealize.ShloMosaic.TcCoe Idealize.ShloMosaic.Tactic
open Cert.Reference4Ideal.Read Cert.Ffn

/-- The reference's projection, entry by entry. -/
theorem mix_apply (x0 : (⟨S32768x1024, .f32⟩ : BufTy).Contents (Elt Ideal)) (x1 x2 : (⟨S32768x512, .bf16⟩ : BufTy).Contents (Elt Ideal))
    (x6 : (⟨S2x1024x1024, .f32⟩ : BufTy).Contents (Elt Ideal)) (r : Fin 32768) (c : Fin 1024) :
    val_main_v6 (F := Ideal) x0 x1 x2 x6 (ix2 r c)
      = mixRow (fun k => x0 (ix2 r k)) (fun k => x1 (ix2 r k)) (fun k => x2 (ix2 r k)) (fun k q => x6 (ix3 0 k q)) c := by
  have e : val_main_v6 (F := Ideal) x0 x1 x2 x6 = hostMix x0 (val_main_v0 (F := Ideal) x1) (val_main_v1 (F := Ideal) x2)
    (val_main_v4 (F := Ideal) x6) := rfl
  refine (congrFun e (ix2 r c)).trans ((hostMix_apply _ _ _ _ r c).trans ?_)
  have e4 : (fun (k q : Fin 1024) => val_main_v4 (F := Ideal) x6 (ix2 k q)) = fun k q => x6 (ix3 0 k q) :=
    funext fun k => funext fun q => by pointwise [val_main_v4, val_main_v3]
  exact congrFun (congrArg (mixRow _ _ _) e4) c

/-- The reference's result, entry by entry. -/
theorem result_apply (x0 : (⟨S32768x1024, .f32⟩ : BufTy).Contents (Elt Ideal)) (x1 x2 : (⟨S32768x512, .bf16⟩ : BufTy).Contents (Elt Ideal))
    (x3 : (⟨S4x3x1024, .f32⟩ : BufTy).Contents (Elt Ideal)) (x4 : (⟨S4x2x1024x5632, .f32⟩ : BufTy).Contents (Elt Ideal))
    (x5 : (⟨S4x2x2816x1024, .f32⟩ : BufTy).Contents (Elt Ideal)) (x6 : (⟨S2x1024x1024, .f32⟩ : BufTy).Contents (Elt Ideal))
    (y : S32768x1024.Idx) :
    val_main_v34 (F := Ideal) x0 x1 x2 x3 x4 x5 x6 y = ffnRow
      (mixRow (fun k => x0 (ix2 (y 0) k)) (fun k => x1 (ix2 (y 0) k)) (fun k => x2 (ix2 (y 0) k)) (fun k q => x6 (ix3 0 k q)))
      (fun k => x3 (ix3 0 2 k)) (fun d j => x4 (ix4 0 1 d j)) (fun j k => x5 (ix4 0 1 j k)) (y 1) := by
  have e : val_main_v34 (F := Ideal) x0 x1 x2 x3 x4 x5 x6 = hostFfn (val_main_v6 (F := Ideal) x0 x1 x2 x6) (val_main_v8 (F := Ideal) x3)
    (val_main_v23 (F := Ideal) x4) (val_main_v25 (F := Ideal) x5) := rfl
  obtain ⟨r, c, rfl⟩ : ∃ (r : Fin 32768) (c : Fin 1024), y = ix2 r c := ⟨y 0, y 1, eq_ix2 y⟩
  refine (congrFun e (ix2 r c)).trans ((hostFfn_apply _ _ _ _ r c).trans ?_)
  have e0 := funext fun k : Fin 1024 => mix_apply x0 x1 x2 x6 r k
  have e1 : (fun k : Fin 1024 => val_main_v8 (F := Ideal) x3 (ix1 k)) = fun k => x3 (ix3 0 2 k) := funext fun k => by
    pointwise [val_main_v8, val_main_v7]
  have e2 : (fun (d : Fin 1024) (j : Fin 5632) => val_main_v23 (F := Ideal) x4 (ix2 d j)) = fun d j => x4 (ix4 0 1 d j) :=
    funext fun d => funext fun j => by pointwise [val_main_v23, val_main_v22]
  have e3 : (fun (j : Fin 2816) (k : Fin 1024) => val_main_v25 (F := Ideal) x5 (ix2 j k)) = fun j k => x5 (ix4 0 1 j k) :=
    funext fun d => funext fun j => by pointwise [val_main_v25, val_main_v24]
  exact congrFun (congr (congr (congr (congrArg ffnRow e0) e1) e2) e3) c

end Cert.Reference4Ideal.Ffn

end
-- ==== Proof.Ffn.Kernel5.lean ====
/-
  The first feed-forward of the second layer, which also gives its normalised result: the kernel's two output arrays, row by row.
-/
module

public import proofs.«01_k».proof.Proof.Gen.Kernel5Ideal.Value
public import proofs.«01_k».proof.Proof.Gen.Reference5Ideal.Read
public import proofs.«01_k».proof.Proof.Ffn.Tile
public import proofs.«01_k».proof.Proof.Ffn.Host
public import Idealize.ShloMosaic.Lib.Pipeline.ValueKit

@[expose] public section

set_option maxRecDepth 16384

noncomputable section

namespace Cert.Kernel5Ideal.Ffn

open Idealize.ShloMosaic Idealize.ShloMosaic.TcCoe Idealize.ShloMosaic.Tactic
open Idealize.ShloMosaic.Pipeline (Dat Cfg Window)
open Cert.Kernel5Ideal.Gen Cert.Ffn

theorem fits : Fits 1024 :=
  ⟨reduces_S1024x1024_S1024, shapeCasts_S1024_S1024x1, broadcasts_S1024x1_S1024x1024, broadcasts_S1x1024_S1024x1024⟩

section
variable {F : FTy → Type} [FloatOps F]

/-- What one grid point leaves in its first output block is the layer on its tile. -/
theorem out_eq (x0 : Vec F S1024x1024 .f32) (x1 : Vec F S1x1024 .f32) (x2 : Vec F S1x1x1024x5632 .bf16)
    (x3 : Vec F S1x1x2816x1024 .bf16) (x4 : Vec F S1x1024 .f32) :
    out0_5 x0 x1 x2 x3 x4 = ffnTile fits x0 (shapeCast S1x1024 x1 shapeCasts_S1x1024_S1x1024) x2 x3 := by
  have e : out0_5 x0 x1 x2 x3 x4 = View.canon [⟨r0_0, ffnTile fits (View.ld x0 r0_0)
      (shapeCast S1x1024 (View.ld x1 r0_1) shapeCasts_S1x1024_S1x1024) x2 x3⟩] := by unfold out0_5; rfl
  rw [e, View.canon_cons_unit_lit _ _ _ (by decide), View.ld_unit_lit _ x0 (by decide), View.ld_unit_lit _ x1 (by decide)]

/-- What one grid point leaves in its second output block is the layer on its tile, normalised. -/
theorem out2_eq (x0 : Vec F S1024x1024 .f32) (x1 : Vec F S1x1024 .f32) (x2 : Vec F S1x1x1024x5632 .bf16)
    (x3 : Vec F S1x1x2816x1024 .bf16) (x4 : Vec F S1x1024 .f32) :
    out0_6 x0 x1 x2 x3 x4 = normTile fits (ffnTile fits x0 (shapeCast S1x1024 x1 shapeCasts_S1x1024_S1x1024) x2 x3)
      (shapeCast S1x1024 x4 shapeCasts_S1x1024_S1x1024) := by
  have e : out0_6 x0 x1 x2 x3 x4 = View.canon [⟨r0_0, normTile fits (ffnTile fits (View.ld x0 r0_0)
      (shapeCast S1x1024 (View.ld x1 r0_1) shapeCasts_S1x1024_S1x1024) x2 x3)
      (shapeCast S1x1024 (View.ld x4 r0_1) shapeCasts_S1x1024_S1x1024)⟩] := by unfold out0_6; rfl
  rw [e, View.canon_cons_unit_lit _ _ _ (by decide), View.ld_unit_lit _ x0 (by decide), View.ld_unit_lit _ x1 (by decide),
    View.ld_unit_lit _ x4 (by decide)]
end

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![1, 0, 0, 0] := by decide +kernel
theorem index3 : ∀ t : Fin grid0.N, win0_3.index t = ![1, 0, 0, 0] := by decide +kernel
theorem index4 : ∀ t : Fin grid0.N, win0_4.index t = ![0, 0] := by decide +kernel
theorem index5 : ∀ t : Fin grid0.N, win0_5.index t = ![(grid0.coords t 0).val, 0] := by decide +kernel
theorem index6 : ∀ t : Fin grid0.N, win0_6.index t = ![(grid0.coords t 0).val, 0] := by decide +kernel

variable (m : (ℓ : Loc nD τ sig) → Buf (Elt Ideal) ℓ)

/-- The layer on the tile of one grid point, from the arrays the kernel is launched on. -/
theorem tile_apply (c : Dev nD) (t : Fin grid0.N) (row col : Fin 1024) (h0 : (grid0.coords t 0).val < 32) :
    ffnTile fits (iblk m c 0 t) (shapeCast S1x1024 (iblk m c 1 t) shapeCasts_S1x1024_S1x1024) (iblk m c 2 t) (iblk m c 3 t) (ix2 row col)
      = ffnRow (fun k => V m c main_arg0 (ix2 ⟨1024 * (grid0.coords t 0).val + row.val, by omega⟩ k)) (fun k => V m c main_v4 (ix2 0 k))
        (fun d j => V m c main_v5 (ix4 1 0 d j)) (fun j k => V m c main_v6 (ix4 1 0 j k)) col := by
  refine (ffnTile_apply fits _ _ _ _ row col).trans ?_
  have e0 : (fun k : Fin 1024 => iblk m c 0 t (ix2 row k))
      = fun k => V m c main_arg0 (ix2 ⟨1024 * (grid0.coords t 0).val + row.val, by omega⟩ k) := funext fun k => by
    blk_ext [iblk, index0 t]
  have e1 : (fun k : Fin 1024 => shapeCast S1x1024 (iblk m c 1 t) shapeCasts_S1x1024_S1x1024 (ix2 0 k))
      = fun k => V m c main_v4 (ix2 0 k) := funext fun k =>
    (shapeCast_apply _ _ (ix2 0 k) (ix2 0 k) rfl).trans (by blk_ext [iblk, index1 t])
  have e2 : (fun (d : Fin 1024) (j : Fin 5632) => iblk m c 2 t (ix4 0 0 d j)) = fun d j => V m c main_v5 (ix4 1 0 d j) :=
    funext fun d => funext fun j => by blk_ext [iblk, index2 t]
  have e3 : (fun (j : Fin 2816) (k : Fin 1024) => iblk m c 3 t (ix4 0 0 j k)) = fun j k => V m c main_v6 (ix4 1 0 j k) :=
    funext fun d => funext fun j => by blk_ext [iblk, index3 t]
  exact congrFun (congr (congr (congr (congrArg ffnRow e0) e1) e2) e3) col

/-- The first output array, from the arrays the kernel is launched on. -/
theorem arr_eq (c : Dev nD) :
    (dats m 0 c).arrAt 5 cfg0.N = fun y : S32768x1024.Idx => ffnRow (fun k => V m c main_arg0 (ix2 (y 0) k)) (fun k => V m c main_v4 (ix2 0 k))
      (fun d j => V m c main_v5 (ix4 1 0 d j)) (fun j k => V m c main_v6 (ix4 1 0 j k)) (y 1) := by
  refine (dats m 0 c).arrAt_eq_of_covers 5 _ (by decide +kernel) fun t hf y => ?_
  blk_simp
  rw [after0_5]
  have h0 : (grid0.coords t 0).val < 32 := (grid0.coords t 0).isLt
  obtain ⟨row, col, rfl⟩ : ∃ (row : Fin 1024) (col : Fin 1024), y = ix2 row col := ⟨y 0, y 1, eq_ix2 y⟩
  have e : (win0_5.blk t).view.emb (ix2 row col) = (ix2 ⟨1024 * (grid0.coords t 0).val + row.val, by omega⟩ col : S32768x1024.Idx) := by
    blk_ext [index5 t]
  rw [e, out_eq]
  exact tile_apply m c t row col h0

/-- The second output array, from the arrays the kernel is launched on. -/
theorem arr2_eq (c : Dev nD) :
    (dats m 0 c).arrAt 6 cfg0.N = fun y : S32768x1024.Idx => normRow (ffnRow (fun k => V m c main_arg0 (ix2 (y 0) k))
      (fun k => V m c main_v4 (ix2 0 k)) (fun d j => V m c main_v5 (ix4 1 0 d j)) (fun j k => V m c main_v6 (ix4 1 0 j k)))
      (fun k => V m c main_v8 (ix2 0 k)) (y 1) := by
  refine (dats m 0 c).arrAt_eq_of_covers 6 _ (by decide +kernel) fun t hf y => ?_
  blk_simp
  rw [after0_6]
  have h0 : (grid0.coords t 0).val < 32 := (grid0.coords t 0).isLt
  obtain ⟨row, col, rfl⟩ : ∃ (row : Fin 1024) (col : Fin 1024), y = ix2 row col := ⟨y 0, y 1, eq_ix2 y⟩
  have e : (win0_6.blk t).view.emb (ix2 row col) = (ix2 ⟨1024 * (grid0.coords t 0).val + row.val, by omega⟩ col : S32768x1024.Idx) := by
    blk_ext [index6 t]
  rw [e, out2_eq]
  refine (normTile_apply fits _ _ row col).trans ?_
  have e4 : (fun k : Fin 1024 => shapeCast S1x1024 (iblk m c 4 t) shapeCasts_S1x1024_S1x1024 (ix2 0 k))
      = fun k => V m c main_v8 (ix2 0 k) := funext fun k =>
    (shapeCast_apply _ _ (ix2 0 k) (ix2 0 k) rfl).trans (by blk_ext [iblk, index4 t])
  exact congrFun (congr (congrArg normRow (funext fun k => tile_apply m c t row k h0)) e4) col

theorem V_rows (c : Dev nD) : V m c main_arg0 = m ((c.tc : Thread nD τ).loc main_arg0) := by
  unfold V
  simp only [hostOps0, List.flatten_cons, List.flatten_nil, List.cons_append, List.nil_append]
  after_results_simp

theorem V_gains (c : Dev nD) (k : Fin 1024) : V m c main_v4 (ix2 0 k) = m ((c.tc : Thread nD τ).loc main_arg1) (ix3 1 0 k) := by
  have e : V m c main_v4 = shapeCast S1x1024 (extractStridedSlice S1x1x1024 ![0, 0, 0] (shapeCast S3x1x1024 (shapeCast S3x1024
      (extractStridedSlice S1x3x1024 ![1, 0, 0] (m ((c.tc : Thread nD τ).loc main_arg1)) slices_S4x3x1024_S1x3x1024_1_0_0)
      shapeCasts_S1x3x1024_S3x1024) shapeCasts_S3x1024_S3x1x1024) slices_S3x1x1024_S1x1x1024_0_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg1) = A
  pointwise []

theorem V_gains2 (c : Dev nD) (k : Fin 1024) : V m c main_v8 (ix2 0 k) = m ((c.tc : Thread nD τ).loc main_arg1) (ix3 1 1 k) := by
  have e : V m c main_v8 = shapeCast S1x1024 (extractStridedSlice S1x1x1024 ![1, 0, 0] (shapeCast S3x1x1024 (shapeCast S3x1024
      (extractStridedSlice S1x3x1024 ![1, 0, 0] (m ((c.tc : Thread nD τ).loc main_arg1)) slices_S4x3x1024_S1x3x1024_1_0_0)
      shapeCasts_S1x3x1024_S3x1024) shapeCasts_S3x1024_S3x1x1024) slices_S3x1x1024_S1x1x1024_1_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg1) = A
  pointwise []

theorem V_wi (c : Dev nD) (i : S4x2x1024x5632.Idx) : V m c main_v5 i = m ((c.tc : Thread nD τ).loc main_arg2) i := by
  unfold V
  simp only [hostOps0, List.flatten_cons, List.flatten_nil, List.cons_append, List.nil_append]
  after_results_simp
  after_results_loop
  rfl

theorem V_wo (c : Dev nD) (i : S4x2x2816x1024.Idx) : V m c main_v6 i = m ((c.tc : Thread nD τ).loc main_arg3) i := by
  unfold V
  simp only [hostOps0, List.flatten_cons, List.flatten_nil, List.cons_append, List.nil_append]
  after_results_simp
  after_results_loop
  rfl

end Cert.Kernel5Ideal.Ffn

namespace Cert.Reference5Ideal.Ffn

open Idealize.ShloMosaic Idealize.ShloMosaic.TcCoe Idealize.ShloMosaic.Tactic
open Cert.Reference5Ideal.Read Cert.Ffn

/-- The reference's first result, entry by entry. -/
theorem result_apply (x0 : (⟨S32768x1024, .f32⟩ : BufTy).Contents (Elt Ideal)) (x1 : (⟨S4x3x1024, .f32⟩ : BufTy).Contents (Elt Ideal))
    (x2 : (⟨S4x2x1024x5632, .f32⟩ : BufTy).Contents (Elt Ideal)) (x3 : (⟨S4x2x2816x1024, .f32⟩ : BufTy).Contents (Elt Ideal))
    (y : S32768x1024.Idx) :
    val_main_v27 (F := Ideal) x0 x1 x2 x3 y = ffnRow (fun k => x0 (ix2 (y 0) k)) (fun k => x1 (ix3 1 0 k)) (fun d j => x2 (ix4 1 0 d j))
      (fun j k => x3 (ix4 1 0 j k)) (y 1) := by
  have e : val_main_v27 (F := Ideal) x0 x1 x2 x3 = hostFfn x0 (val_main_v1 (F := Ideal) x1) (val_main_v16 (F := Ideal) x2)
    (val_main_v18 (F := Ideal) x3) := rfl
  obtain ⟨r, c, rfl⟩ : ∃ (r : Fin 32768) (c : Fin 1024), y = ix2 r c := ⟨y 0, y 1, eq_ix2 y⟩
  refine (congrFun e (ix2 r c)).trans ((hostFfn_apply _ _ _ _ r c).trans ?_)
  have e1 : (fun k : Fin 1024 => val_main_v1 (F := Ideal) x1 (ix1 k)) = fun k => x1 (ix3 1 0 k) := funext fun k => by
    pointwise [val_main_v1, val_main_v0]
  have e2 : (fun (d : Fin 1024) (j : Fin 5632) => val_main_v16 (F := Ideal) x2 (ix2 d j)) = fun d j => x2 (ix4 1 0 d j) :=
    funext fun d => funext fun j => by pointwise [val_main_v16, val_main_v15]
  have e3 : (fun (j : Fin 2816) (k : Fin 1024) => val_main_v18 (F := Ideal) x3 (ix2 j k)) = fun j k => x3 (ix4 1 0 j k) :=
    funext fun d => funext fun j => by pointwise [val_main_v18, val_main_v17]
  exact congrFun (congr (congr (congrArg (ffnRow _) e1) e2) e3) c

/-- The reference's second result, entry by entry. -/
theorem result2_apply (x0 : (⟨S32768x1024, .f32⟩ : BufTy).Contents (Elt Ideal)) (x1 : (⟨S4x3x1024, .f32⟩ : BufTy).Contents (Elt Ideal))
    (x2 : (⟨S4x2x1024x5632, .f32⟩ : BufTy).Contents (Elt Ideal)) (x3 : (⟨S4x2x2816x1024, .f32⟩ : BufTy).Contents (Elt Ideal))
    (y : S32768x1024.Idx) :
    val_main_v42 (F := Ideal) x0 x1 x2 x3 y = normRow (ffnRow (fun k => x0 (ix2 (y 0) k)) (fun k => x1 (ix3 1 0 k))
      (fun d j => x2 (ix4 1 0 d j)) (fun j k => x3 (ix4 1 0 j k))) (fun k => x1 (ix3 1 1 k)) (y 1) := by
  have e : val_main_v42 (F := Ideal) x0 x1 x2 x3 = hostNorm (val_main_v27 (F := Ideal) x0 x1 x2 x3) (val_main_v29 (F := Ideal) x1) := rfl
  obtain ⟨r, c, rfl⟩ : ∃ (r : Fin 32768) (c : Fin 1024), y = ix2 r c := ⟨y 0, y 1, eq_ix2 y⟩
  refine (congrFun e (ix2 r c)).trans ((hostNorm_apply _ _ r c).trans ?_)
  have e1 : (fun k : Fin 1024 => val_main_v29 (F := Ideal) x1 (ix1 k)) = fun k => x1 (ix3 1 1 k) := funext fun k => by
    pointwise [val_main_v29, val_main_v28]
  exact congrFun (congr (congrArg normRow (funext fun k => result_apply x0 x1 x2 x3 (ix2 r k))) e1) c

end Cert.Reference5Ideal.Ffn

end
-- ==== Proof.Ffn.Kernel6.lean ====
/-
  The first feed-forward of the first layer: the kernel's output array, row by row.
-/
module

public import proofs.«01_k».proof.Proof.Gen.Kernel6Ideal.Value
public import proofs.«01_k».proof.Proof.Ffn.Tile
public import proofs.«01_k».proof.Proof.Ffn.Host
public import Idealize.ShloMosaic.Lib.Pipeline.ValueKit

@[expose] public section

set_option maxRecDepth 16384

noncomputable section

namespace Cert.Kernel6Ideal.Ffn

open Idealize.ShloMosaic Idealize.ShloMosaic.TcCoe Idealize.ShloMosaic.Tactic
open Idealize.ShloMosaic.Pipeline (Dat Cfg Window)
open Cert.Kernel6Ideal.Gen Cert.Ffn

theorem fits : Fits 1024 :=
  ⟨reduces_S1024x1024_S1024, shapeCasts_S1024_S1024x1, broadcasts_S1024x1_S1024x1024, broadcasts_S1x1024_S1024x1024⟩

section
variable {F : FTy → Type} [FloatOps F]

/-- What one grid point leaves in its output block is the layer on its tile. -/
theorem out_eq (x0 : Vec F S1024x1024 .f32) (x1 : Vec F S1x1024 .f32) (x2 : Vec F S1x1x1024x5632 .bf16)
    (x3 : Vec F S1x1x2816x1024 .bf16) (x4 : Vec F S1x1024 .f32) :
    out0_5 x0 x1 x2 x3 x4 = ffnTile fits x0 (shapeCast S1x1024 x1 shapeCasts_S1x1024_S1x1024) x2 x3 := by
  have e : out0_5 x0 x1 x2 x3 x4 = View.canon [⟨r0_0, ffnTile fits (View.ld x0 r0_0)
      (shapeCast S1x1024 (View.ld x1 r0_1) shapeCasts_S1x1024_S1x1024) x2 x3⟩] := by unfold out0_5; rfl
  rw [e, View.canon_cons_unit_lit _ _ _ (by decide), View.ld_unit_lit _ x0 (by decide), View.ld_unit_lit _ x1 (by decide)]
end

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0, 0, 0] := by decide +kernel
theorem index3 : ∀ t : Fin grid0.N, win0_3.index t = ![0, 0, 0, 0] := by decide +kernel
theorem index5 : ∀ t : Fin grid0.N, win0_5.index t = ![(grid0.coords t 0).val, 0] := by decide +kernel

variable (m : (ℓ : Loc nD τ sig) → Buf (Elt Ideal) ℓ)

/-- The output array, from the arrays the kernel is launched on. -/
theorem arr_eq (c : Dev nD) :
    (dats m 0 c).arrAt 5 cfg0.N = fun y : S32768x1024.Idx => ffnRow (fun k => V m c main_arg0 (ix2 (y 0) k)) (fun k => V m c main_v4 (ix2 0 k))
      (fun d j => V m c main_v5 (ix4 0 0 d j)) (fun j k => V m c main_v6 (ix4 0 0 j k)) (y 1) := by
  refine (dats m 0 c).arrAt_eq_of_covers 5 _ (by decide +kernel) fun t hf y => ?_
  blk_simp
  rw [after0_5]
  have h0 : (grid0.coords t 0).val < 32 := (grid0.coords t 0).isLt
  obtain ⟨row, col, rfl⟩ : ∃ (row : Fin 1024) (col : Fin 1024), y = ix2 row col := ⟨y 0, y 1, eq_ix2 y⟩
  have e : (win0_5.blk t).view.emb (ix2 row col) = (ix2 ⟨1024 * (grid0.coords t 0).val + row.val, by omega⟩ col : S32768x1024.Idx) := by
    blk_ext [index5 t]
  rw [e, out_eq]
  refine (ffnTile_apply fits _ _ _ _ row col).trans ?_
  have e0 : (fun k : Fin 1024 => iblk m c 0 t (ix2 row k))
      = fun k => V m c main_arg0 (ix2 ⟨1024 * (grid0.coords t 0).val + row.val, by omega⟩ k) := funext fun k => by
    blk_ext [iblk, index0 t]
  have e1 : (fun k : Fin 1024 => shapeCast S1x1024 (iblk m c 1 t) shapeCasts_S1x1024_S1x1024 (ix2 0 k))
      = fun k => V m c main_v4 (ix2 0 k) := funext fun k =>
    (shapeCast_apply _ _ (ix2 0 k) (ix2 0 k) rfl).trans (by blk_ext [iblk, index1 t])
  have e2 : (fun (d : Fin 1024) (j : Fin 5632) => iblk m c 2 t (ix4 0 0 d j)) = fun d j => V m c main_v5 (ix4 0 0 d j) :=
    funext fun d => funext fun j => by blk_ext [iblk, index2 t]
  have e3 : (fun (j : Fin 2816) (k : Fin 1024) => iblk m c 3 t (ix4 0 0 j k)) = fun j k => V m c main_v6 (ix4 0 0 j k) :=
    funext fun d => funext fun j => by blk_ext [iblk, index3 t]
  exact congrFun (congr (congr (congr (congrArg ffnRow e0) e1) e2) e3) col

theorem V_rows (c : Dev nD) : V m c main_arg0 = m ((c.tc : Thread nD τ).loc main_arg0) := by
  unfold V
  simp only [hostOps0, List.flatten_cons, List.flatten_nil, List.cons_append, List.nil_append]
  after_results_simp

theorem V_gains (c : Dev nD) (k : Fin 1024) : V m c main_v4 (ix2 0 k) = m ((c.tc : Thread nD τ).loc main_arg1) (ix3 0 0 k) := by
  have e : V m c main_v4 = shapeCast S1x1024 (extractStridedSlice S1x1x1024 ![0, 0, 0] (shapeCast S3x1x1024 (shapeCast S3x1024
      (extractStridedSlice S1x3x1024 ![0, 0, 0] (m ((c.tc : Thread nD τ).loc main_arg1)) slices_S4x3x1024_S1x3x1024_0_0_0)
      shapeCasts_S1x3x1024_S3x1024) shapeCasts_S3x1024_S3x1x1024) slices_S3x1x1024_S1x1x1024_0_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg1) = A
  pointwise []

theorem V_wi (c : Dev nD) (i : S4x2x1024x5632.Idx) : V m c main_v5 i = m ((c.tc : Thread nD τ).loc main_arg2) i := by
  unfold V
  simp only [hostOps0, List.flatten_cons, List.flatten_nil, List.cons_append, List.nil_append]
  after_results_simp
  after_results_loop
  rfl

theorem V_wo (c : Dev nD) (i : S4x2x2816x1024.Idx) : V m c main_v6 i = m ((c.tc : Thread nD τ).loc main_arg3) i := by
  unfold V
  simp only [hostOps0, List.flatten_cons, List.flatten_nil, List.cons_append, List.nil_append]
  after_results_simp
  after_results_loop
  rfl

end Cert.Kernel6Ideal.Ffn

namespace Cert.Reference6Ideal.Ffn

open Idealize.ShloMosaic Idealize.ShloMosaic.TcCoe Idealize.ShloMosaic.Tactic
open Cert.Reference6Ideal.Read Cert.Ffn

/-- The reference's result, entry by entry. -/
theorem result_apply (x0 : (⟨S32768x1024, .f32⟩ : BufTy).Contents (Elt Ideal)) (x1 : (⟨S4x3x1024, .f32⟩ : BufTy).Contents (Elt Ideal))
    (x2 : (⟨S4x2x1024x5632, .f32⟩ : BufTy).Contents (Elt Ideal)) (x3 : (⟨S4x2x2816x1024, .f32⟩ : BufTy).Contents (Elt Ideal))
    (y : S32768x1024.Idx) :
    val_main_v27 (F := Ideal) x0 x1 x2 x3 y = ffnRow (fun k => x0 (ix2 (y 0) k)) (fun k => x1 (ix3 0 0 k)) (fun d j => x2 (ix4 0 0 d j))
      (fun j k => x3 (ix4 0 0 j k)) (y 1) := by
  have e : val_main_v27 (F := Ideal) x0 x1 x2 x3 = hostFfn x0 (val_main_v1 (F := Ideal) x1) (val_main_v16 (F := Ideal) x2)
    (val_main_v18 (F := Ideal) x3) := rfl
  obtain ⟨r, c, rfl⟩ : ∃ (r : Fin 32768) (c : Fin 1024), y = ix2 r c := ⟨y 0, y 1, eq_ix2 y⟩
  refine (congrFun e (ix2 r c)).trans ((hostFfn_apply _ _ _ _ r c).trans ?_)
  have e1 : (fun k : Fin 1024 => val_main_v1 (F := Ideal) x1 (ix1 k)) = fun k => x1 (ix3 0 0 k) := funext fun k => by
    pointwise [val_main_v1, val_main_v0]
  have e2 : (fun (d : Fin 1024) (j : Fin 5632) => val_main_v16 (F := Ideal) x2 (ix2 d j)) = fun d j => x2 (ix4 0 0 d j) :=
    funext fun d => funext fun j => by pointwise [val_main_v16, val_main_v15]
  have e3 : (fun (j : Fin 2816) (k : Fin 1024) => val_main_v18 (F := Ideal) x3 (ix2 j k)) = fun j k => x3 (ix4 0 0 j k) :=
    funext fun d => funext fun j => by pointwise [val_main_v18, val_main_v17]
  exact congrFun (congr (congr (congrArg (ffnRow _) e1) e2) e3) c

end Cert.Reference6Ideal.Ffn

end
-- ==== Proof.Ffn.Kernel7.lean ====
/-
  The normalisation and projection in front of the first layer's mixer: the kernel's output array, row by row. Its 2816 columns come
  out as 22 slabs of 128 columns.
-/
module

public import proofs.«01_k».proof.Proof.Gen.Kernel7Ideal.Value
public import proofs.«01_k».proof.Proof.Ffn.Tile
public import proofs.«01_k».proof.Proof.Ffn.Host
public import proofs.«01_k».proof.Proof.Gen.Reference7Ideal.Read
public import Idealize.ShloMosaic.Lib.Pipeline.ValueKit

@[expose] public section

set_option maxRecDepth 16384

noncomputable section

namespace Cert.Kernel7Ideal.Ffn

open Idealize.ShloMosaic Idealize.ShloMosaic.TcCoe Idealize.ShloMosaic.Tactic
open Idealize.ShloMosaic.Pipeline (Dat Cfg Window)
open Cert.Kernel7Ideal.Gen Cert.Ffn
open Idealize.ShloMosaic.ValueIdx (slice2_axis1_apply shapeCast_ab_1ab_apply)

theorem fits : Fits 1024 :=
  ⟨reduces_S1024x1024_S1024, shapeCasts_S1024_S1024x1, broadcasts_S1024x1_S1024x1024, broadcasts_S1x1024_S1024x1024⟩

/-- The projection of one row: column `j` of the product of the normalised row with the weights. -/
def projRow (x g : Fin 1024 → EReal) (w : Fin 1024 → Fin 2816 → EReal) (j : Fin 2816) : EReal :=
  ∑ k, normRow x g k * w k j

/-- The column that lane `l` of slab `s` is. -/
def slabCol (s : Fin 22) (l : Fin 128) : Fin 2816 := ⟨128 * s.val + l.val, by omega⟩

section
variable {F : FTy → Type} [FloatOps F]

/-- The projection on a tile. -/
def projTile (x : Vec F S1024x1024 .f32) (g : Vec F S1x1024 .f32) (w : Vec F S1024x2816 .bf16) : FVec F S1024x2816 .f32 :=
  matmul (DotDims.plain 1024 1024 2816) none (truncf .bf16 (normTile fits x g) (by decide)) w (constant S1024x2816 .f32 0x00000000#32)

/-- A slab of 128 columns, as it is stored. -/
def slab (p : FVec F S1024x2816 .f32) (o : Nat) (ho : o ≤ 2688) : FVec F S1x1024x128 .f32 :=
  shapeCast S1x1024x128 (extractStridedSlice S1024x128 ![0, o] p (⟨rfl, fun a => match a with
    | ⟨0, _⟩ => by show 0 + 1024 ≤ 1024; omega
    | ⟨1, _⟩ => by show o + 128 ≤ 2816; omega⟩ : S1024x2816.Slices ![0, o] S1024x128)) shapeCasts_S1024x128_S1x1024x128

/-- The whole output block of a grid point, entry by entry. -/
def slabs (p : FVec F S1024x2816 .f32) (y : S22x1024x128.Idx) : F .f32 := p (ix2 (y 1) (slabCol (y 0) (y 2)))

/-- The slab stored at place `s` is that part of `slabs`. -/
theorem slab_eq (p : FVec F S1024x2816 .f32) (s : Nat) (hs : s < 22)
    (inb : ∀ a, (![s, 0, 0] : Fin 3 → Nat) a + (![1, 1024, 128] : Fin 3 → Nat) a ≤ S22x1024x128.size a)
    (x : (Rect.unit (s := S22x1024x128) ![s, 0, 0] ![1, 1024, 128] inb).shape.Idx) :
    slab p (128 * s) (by omega) x = slabs p ((Rect.unit (s := S22x1024x128) ![s, 0, 0] ![1, 1024, 128] inb).emb x) := by
  obtain ⟨z, r, l, rfl⟩ : ∃ (z : Fin 1) (r : Fin 1024) (l : Fin 128), x = ix3 z r l := ⟨x 0, x 1, x 2, eq_ix3 x⟩
  refine (shapeCast_ab_1ab_apply _ _ z r l).trans ((slice2_axis1_apply (128 * s) p _ r l (slabCol ⟨s, hs⟩ l) rfl).trans ?_)
  refine congrArg p (congrArg₂ ix2 (Fin.ext ?_) (Fin.ext ?_))
  · show r.val = 0 + 1 * r.val; omega
  · show 128 * s + l.val = 128 * (s + 1 * z.val) + (0 + 1 * l.val); omega

theorem proj_eq (x : Vec F S1024x1024 .f32) (g : Vec F S1x1024 .f32) (w : Vec F S1024x2816 .bf16) :
    k0_pay5 x g w = projTile x (shapeCast S1x1024 g shapeCasts_S1x1024_S1x1024) (shapeCast S1024x2816 w shapeCasts_S1024x2816_S1024x2816) := rfl

/-- What one grid point leaves in its output block is the projection of its tile, slab by slab. -/
theorem out_eq (x0 : Vec F S1024x1024 .f32) (x1 : Vec F S1x1024 .f32) (x2 : Vec F S1024x2816 .bf16) :
    out0_3 x0 x1 x2 = slabs (projTile x0 (shapeCast S1x1024 x1 shapeCasts_S1x1024_S1x1024) (shapeCast S1024x2816 x2 shapeCasts_S1024x2816_S1024x2816)) := by
  funext y
  unfold out0_3 k0_pay27
  refine View.canon_apply_of_pieces _ _ ?_ y (cover0_3 _ _ _ _ _ _ _ _ _ _ _ _ _ _ _ _ _ _ _ _ _ _ y)
  unfold k0_pay6 k0_pay7 k0_pay8 k0_pay9
  rw [proj_eq, View.ld_unit_lit _ x0 (by decide), View.ld_unit_lit _ x1 (by decide), View.ld_unit_lit _ x2 (by decide)]
  generalize projTile (F := F) x0 _ _ = p
  simp only [List.forall_mem_cons, List.not_mem_nil, false_imp_iff, implies_true, and_true]
  have hp := fun s hs inb x => slab_eq p s hs inb x
  refine ⟨?_, ?_, ?_, ?_, ?_, ?_, ?_, ?_, ?_, ?_, ?_, ?_, ?_, ?_, ?_, ?_, ?_, ?_, ?_, ?_, ?_, ?_⟩ <;> intro x
  · exact Eq.trans (congrFun rfl x) (hp 21 (by omega) _ x)
  · exact Eq.trans (congrFun rfl x) (hp 20 (by omega) _ x)
  · exact Eq.trans (congrFun rfl x) (hp 19 (by omega) _ x)
  · exact Eq.trans (congrFun rfl x) (hp 18 (by omega) _ x)
  · exact Eq.trans (congrFun rfl x) (hp 17 (by omega) _ x)
  · exact Eq.trans (congrFun rfl x) (hp 16 (by omega) _ x)
  · exact Eq.trans (congrFun rfl x) (hp 15 (by omega) _ x)
  · exact Eq.trans (congrFun rfl x) (hp 14 (by omega) _ x)
  · exact Eq.trans (congrFun rfl x) (hp 13 (by omega) _ x)
  · exact Eq.trans (congrFun rfl x) (hp 12 (by omega) _ x)
  · exact Eq.trans (congrFun rfl x) (hp 11 (by omega) _ x)
  · exact Eq.trans (congrFun rfl x) (hp 10 (by omega) _ x)
  · exact Eq.trans (congrFun rfl x) (hp 9 (by omega) _ x)
  · exact Eq.trans (congrFun rfl x) (hp 8 (by omega) _ x)
  · exact Eq.trans (congrFun rfl x) (hp 7 (by omega) _ x)
  · exact Eq.trans (congrFun rfl x) (hp 6 (by omega) _ x)
  · exact Eq.trans (congrFun rfl x) (hp 5 (by omega) _ x)
  · exact Eq.trans (congrFun rfl x) (hp 4 (by omega) _ x)
  · exact Eq.trans (congrFun rfl x) (hp 3 (by omega) _ x)
  · exact Eq.trans (congrFun rfl x) (hp 2 (by omega) _ x)
  · exact Eq.trans (congrFun rfl x) (hp 1 (by omega) _ x)
  · exact Eq.trans (congrFun rfl x) (hp 0 (by omega) _ x)
end

theorem projTile_apply (x : Vec Ideal S1024x1024 .f32) (g : Vec Ideal S1x1024 .f32) (w : Vec Ideal S1024x2816 .bf16) (r : Fin 1024) (j : Fin 2816) :
    projTile x g w (ix2 r j) = projRow (fun k => x (ix2 r k)) (fun k => g (ix2 0 k)) (fun k j => w (ix2 k j)) j :=
  (product_apply _ _ r j).trans (Finset.sum_congr rfl fun k _ => congrArg (fun v : EReal => v * w (ix2 k j)) (normTile_apply fits x g r k))

theorem index0 : ∀ t : Fin grid0.N, win0_0.index t = ![(grid0.coords t 0).val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, (grid0.coords t 0).val, 0] := by decide +kernel

variable (m : (ℓ : Loc nD τ sig) → Buf (Elt Ideal) ℓ)

/-- The output array, from the arrays the kernel is launched on. -/
theorem arr_eq (c : Dev nD) :
    (dats m 0 c).arrAt 3 cfg0.N = fun y : S22x32768x128.Idx => projRow (fun k => V m c main_arg0 (ix2 (y 1) k)) (fun k => V m c main_v4 (ix2 0 k))
      (fun k j => V m c main_v7 (ix2 k j)) (slabCol (y 0) (y 2)) := by
  refine (dats m 0 c).arrAt_eq_of_covers 3 _ (by decide +kernel) fun t hf y => ?_
  blk_simp
  rw [after0_3]
  have h0 : (grid0.coords t 0).val < 32 := (grid0.coords t 0).isLt
  obtain ⟨s, row, l, rfl⟩ : ∃ (s : Fin 22) (row : Fin 1024) (l : Fin 128), y = ix3 s row l := ⟨y 0, y 1, y 2, eq_ix3 y⟩
  have e : (win0_3.blk t).view.emb (ix3 s row l) = (ix3 s ⟨1024 * (grid0.coords t 0).val + row.val, by omega⟩ l : S22x32768x128.Idx) := by
    blk_ext [index3 t]
  rw [e, out_eq]
  refine (projTile_apply _ _ _ row (slabCol s l)).trans ?_
  have e0 : (fun k : Fin 1024 => iblk m c 0 t (ix2 row k))
      = fun k => V m c main_arg0 (ix2 ⟨1024 * (grid0.coords t 0).val + row.val, by omega⟩ k) := funext fun k => by
    blk_ext [iblk, index0 t]
  have e1 : (fun k : Fin 1024 => shapeCast S1x1024 (iblk m c 1 t) shapeCasts_S1x1024_S1x1024 (ix2 0 k))
      = fun k => V m c main_v4 (ix2 0 k) := funext fun k =>
    (shapeCast_apply _ _ (ix2 0 k) (ix2 0 k) rfl).trans (by blk_ext [iblk, index1 t])
  have e2 : (fun (k : Fin 1024) (j : Fin 2816) => shapeCast S1024x2816 (iblk m c 2 t) shapeCasts_S1024x2816_S1024x2816 (ix2 k j))
      = fun k j => V m c main_v7 (ix2 k j) := funext fun k => funext fun j =>
    (shapeCast_apply _ _ (ix2 k j) (ix2 k j) rfl).trans (by blk_ext [iblk, index2 t])
  exact congrFun (congr (congr (congrArg projRow e0) e1) e2) (slabCol s l)

theorem V_rows (c : Dev nD) : V m c main_arg0 = m ((c.tc : Thread nD τ).loc main_arg0) := by
  unfold V
  simp only [hostOps0, List.flatten_cons, List.flatten_nil, List.cons_append, List.nil_append]
  after_results_simp

theorem V_gains (c : Dev nD) (k : Fin 1024) : V m c main_v4 (ix2 0 k) = m ((c.tc : Thread nD τ).loc main_arg1) (ix3 0 1 k) := by
  have e : V m c main_v4 = shapeCast S1x1024 (extractStridedSlice S1x1x1024 ![1, 0, 0] (shapeCast S3x1x1024 (shapeCast S3x1024
      (extractStridedSlice S1x3x1024 ![0, 0, 0] (m ((c.tc : Thread nD τ).loc main_arg1)) slices_S4x3x1024_S1x3x1024_0_0_0)
      shapeCasts_S1x3x1024_S3x1024) shapeCasts_S3x1024_S3x1x1024) slices_S3x1x1024_S1x1x1024_1_0_0) shapeCasts_S1x1x1024_S1x1024 := by
    unfold V
    simp only [hostOps0, List.flatten_cons, List.flatten_nil, List.cons_append, List.nil_append]
    after_results_simp
    after_results_loop
    rfl
  rw [e]
  generalize m ((c.tc : Thread nD τ).loc main_arg1) = A
  pointwise []

theorem V_proj (c : Dev nD) (k : Fin 1024) (j : Fin 2816) : V m c main_v7 (ix2 k j) = m ((c.tc : Thread nD τ).loc main_arg2) (ix3 0 k j) := by
  have e : V m c main_v7 = shapeCast S1024x2816 (extractStridedSlice S1x1024x2816 ![0, 0, 0]
      (m ((c.tc : Thread nD τ).loc main_arg2)) slices_S2x1024x2816_S1x1024x2816_0_0_0)
      shapeCasts_S1x1024x2816_S1024x2816 := by
    unfold V
    simp only [hostOps0, List.flatten_cons, List.flatten_nil, List.cons_append, List.nil_append]
    after_results_simp
    after_results_loop
    rfl
  rw [e]
  generalize m ((c.tc : Thread nD τ).loc main_arg2) = A
  pointwise []

end Cert.Kernel7Ideal.Ffn

namespace Cert.Reference7Ideal.Ffn

open Idealize.ShloMosaic Idealize.ShloMosaic.TcCoe Idealize.ShloMosaic.Tactic
open Cert.Reference7Ideal.Read Cert.Reference7Ideal.Gen Cert.Ffn Cert.Kernel7Ideal.Ffn
open Idealize.ShloMosaic.StackMember (dotGeneral_plain_apply)

/-- The reference's product, entry by entry. -/
theorem product_apply (x0 : (⟨S32768x1024, .f32⟩ : BufTy).Contents (Elt Ideal)) (x1 : (⟨S4x3x1024, .f32⟩ : BufTy).Contents (Elt Ideal))
    (x2 : (⟨S2x1024x2816, .f32⟩ : BufTy).Contents (Elt Ideal)) (r : Fin 32768) (j : Fin 2816) :
    val_main_v17 (F := Ideal) x0 x1 x2 (ix2 r j)
      = projRow (fun k => x0 (ix2 r k)) (fun k => x1 (ix3 0 1 k)) (fun k j => x2 (ix3 0 k j)) j := by
  have e : val_main_v17 (F := Ideal) x0 x1 x2 = Host.dotGeneral dot_S32768x1024_S1024x2816_S32768x2816_1_0_0_1_n_n none
    (hostNorm x0 (val_main_v1 (F := Ideal) x1)) (val_main_v16 (F := Ideal) x2) := rfl
  have e1 : (fun k : Fin 1024 => val_main_v1 (F := Ideal) x1 (ix1 k)) = fun k => x1 (ix3 0 1 k) := funext fun k => by
    pointwise [val_main_v1, val_main_v0]
  have e2 : ∀ k : Fin 1024, val_main_v16 (F := Ideal) x2 (ix2 k j) = x2 (ix3 0 k j) := fun k => by pointwise [val_main_v16, val_main_v15]
  refine (congrFun e (ix2 r j)).trans ((dotGeneral_plain_apply (m := 32768) (k := 1024) (n := 2816) none _ _ r j).trans
    (Finset.sum_congr rfl fun k _ => congrArg₂ (fun a b : EReal => a * b) ?_ (e2 k)))
  exact (hostNorm_apply _ _ r k).trans (congrArg (normRow _ · k) e1)

/-- The reference's slabs read its product. -/
theorem slabs_apply (p : FVec Ideal S32768x2816 .f32) (s : Fin 22) (r : Fin 32768) (l : Fin 128) :
    transpose S22x32768x128 [1, 0, 2] (shapeCast S32768x22x128 p shapeCasts_S32768x2816_S32768x22x128)
      transposes_S32768x22x128_S22x32768x128_1_0_2 (ix3 s r l) = p (ix2 r (slabCol s l)) := by
  pointwise [slabCol]
  exact congrArg p (congrArg (ix2 r) (Fin.ext (by show s.val * 128 + l.val = 128 * s.val + l.val; omega)))

/-- The reference's result, entry by entry. -/
theorem result_apply (x0 : (⟨S32768x1024, .f32⟩ : BufTy).Contents (Elt Ideal)) (x1 : (⟨S4x3x1024, .f32⟩ : BufTy).Contents (Elt Ideal))
    (x2 : (⟨S2x1024x2816, .f32⟩ : BufTy).Contents (Elt Ideal)) (y : S22x32768x128.Idx) :
    val_main_v19 (F := Ideal) x0 x1 x2 y
      = projRow (fun k => x0 (ix2 (y 1) k)) (fun k => x1 (ix3 0 1 k)) (fun k j => x2 (ix3 0 k j)) (slabCol (y 0) (y 2)) := by
  obtain ⟨s, r, l, rfl⟩ : ∃ (s : Fin 22) (r : Fin 32768) (l : Fin 128), y = ix3 s r l := ⟨y 0, y 1, y 2, eq_ix3 y⟩
  exact (slabs_apply _ s r l).trans (product_apply x0 x1 x2 r (slabCol s l))

end Cert.Reference7Ideal.Ffn

end
-- ==== Proof.Ffn.Equation.lean ====
/-
  Per projection and feed-forward program: the kernel's output array is the reference's result, of the same arguments.
-/
module

public import proofs.«01_k».proof.Proof.Ffn.Kernel2
public import proofs.«01_k».proof.Proof.Ffn.Kernel3
public import proofs.«01_k».proof.Proof.Ffn.Kernel4
public import proofs.«01_k».proof.Proof.Ffn.Kernel5
public import proofs.«01_k».proof.Proof.Ffn.Kernel6
public import proofs.«01_k».proof.Proof.Ffn.Kernel7

@[expose] public section

set_option maxRecDepth 16384

noncomputable section

namespace Cert.Ffn

open Idealize.ShloMosaic Idealize.ShloMosaic.TcCoe

/-- The first feed-forward of the first layer. -/
theorem first_eq (m : (ℓ : Loc Cert.Kernel6Ideal.nD Cert.Kernel6Ideal.τ Cert.Kernel6Ideal.sig) → Buf (Elt Ideal) ℓ) (c : Dev Cert.Kernel6Ideal.nD) :
    (Cert.Kernel6Ideal.Gen.dats m 0 c).arrAt 5 Cert.Kernel6Ideal.cfg0.N = Cert.Reference6Ideal.Read.val_main_v27 (F := Ideal)
      (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) := by
  funext y
  refine (congrFun (Cert.Kernel6Ideal.Ffn.arr_eq m c) y).trans (Eq.trans ?_ (Cert.Reference6Ideal.Ffn.result_apply _ _ _ _ y).symm)
  have ex : (fun k => Cert.Kernel6Ideal.Gen.V m c Cert.Kernel6Ideal.main_arg0 (ix2 (y 0) k)) = fun k => m ((c.tc : Thread Cert.Kernel6Ideal.nD Cert.Kernel6Ideal.τ).loc Cert.Kernel6Ideal.main_arg0) (ix2 (y 0) k) := by
    rw [Cert.Kernel6Ideal.Ffn.V_rows m c]
  exact congrFun (congr (congr (congr (congrArg ffnRow ex) (funext fun k => Cert.Kernel6Ideal.Ffn.V_gains m c k))
    (funext fun d => funext fun j => Cert.Kernel6Ideal.Ffn.V_wi m c (ix4 0 0 d j))) (funext fun j => funext fun k => Cert.Kernel6Ideal.Ffn.V_wo m c (ix4 0 0 j k))) (y 1)

/-- The first feed-forward of the second layer. -/
theorem second_eq (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 5 Cert.Kernel5Ideal.cfg0.N = Cert.Reference5Ideal.Read.val_main_v27 (F := Ideal)
      (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) := by
  funext y
  refine (congrFun (Cert.Kernel5Ideal.Ffn.arr_eq m c) y).trans (Eq.trans ?_ (Cert.Reference5Ideal.Ffn.result_apply _ _ _ _ y).symm)
  have ex : (fun k => Cert.Kernel5Ideal.Gen.V m c Cert.Kernel5Ideal.main_arg0 (ix2 (y 0) k)) = fun k => m ((c.tc : Thread Cert.Kernel5Ideal.nD Cert.Kernel5Ideal.τ).loc Cert.Kernel5Ideal.main_arg0) (ix2 (y 0) k) := by
    rw [Cert.Kernel5Ideal.Ffn.V_rows m c]
  exact congrFun (congr (congr (congr (congrArg ffnRow ex) (funext fun k => Cert.Kernel5Ideal.Ffn.V_gains m c k))
    (funext fun d => funext fun j => Cert.Kernel5Ideal.Ffn.V_wi m c (ix4 1 0 d j))) (funext fun j => funext fun k => Cert.Kernel5Ideal.Ffn.V_wo m c (ix4 1 0 j k))) (y 1)

/-- The first feed-forward of the second layer, normalised. -/
theorem second_norm_eq (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 6 Cert.Kernel5Ideal.cfg0.N = Cert.Reference5Ideal.Read.val_main_v42 (F := Ideal)
      (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) := by
  funext y
  refine (congrFun (Cert.Kernel5Ideal.Ffn.arr2_eq m c) y).trans (Eq.trans ?_ (Cert.Reference5Ideal.Ffn.result2_apply _ _ _ _ y).symm)
  have ex : (fun k => Cert.Kernel5Ideal.Gen.V m c Cert.Kernel5Ideal.main_arg0 (ix2 (y 0) k)) = fun k => m ((c.tc : Thread Cert.Kernel5Ideal.nD Cert.Kernel5Ideal.τ).loc Cert.Kernel5Ideal.main_arg0) (ix2 (y 0) k) := by
    rw [Cert.Kernel5Ideal.Ffn.V_rows m c]
  exact congrFun (congr (congrArg normRow (congr (congr (congr (congrArg ffnRow ex) (funext fun k => Cert.Kernel5Ideal.Ffn.V_gains m c k))
    (funext fun d => funext fun j => Cert.Kernel5Ideal.Ffn.V_wi m c (ix4 1 0 d j))) (funext fun j => funext fun k => Cert.Kernel5Ideal.Ffn.V_wo m c (ix4 1 0 j k))))
    (funext fun k => Cert.Kernel5Ideal.Ffn.V_gains2 m c k)) (y 1)

/-- The second feed-forward of the first layer, after the mixer's projection. -/
theorem mix_eq (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 8 Cert.Kernel4Ideal.cfg0.N = Cert.Reference4Ideal.Read.val_main_v34 (F := Ideal)
      (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) := by
  funext y
  refine (congrFun (Cert.Kernel4Ideal.Ffn.arr_eq m c) y).trans (Eq.trans ?_ (Cert.Reference4Ideal.Ffn.result_apply _ _ _ _ _ _ _ y).symm)
  have e0 : (fun k => Cert.Kernel4Ideal.Gen.V m c Cert.Kernel4Ideal.main_arg0 (ix2 (y 0) k)) = fun k => m ((c.tc : Thread Cert.Kernel4Ideal.nD Cert.Kernel4Ideal.τ).loc Cert.Kernel4Ideal.main_arg0) (ix2 (y 0) k) := by
    rw [Cert.Kernel4Ideal.Ffn.V_rows m c]
  have e1 : (fun k => Cert.Kernel4Ideal.Gen.V m c Cert.Kernel4Ideal.main_arg1 (ix2 (y 0) k)) = fun k => m ((c.tc : Thread Cert.Kernel4Ideal.nD Cert.Kernel4Ideal.τ).loc Cert.Kernel4Ideal.main_arg1) (ix2 (y 0) k) := by
    rw [Cert.Kernel4Ideal.Ffn.V_left m c]
  have e2 : (fun k => Cert.Kernel4Ideal.Gen.V m c Cert.Kernel4Ideal.main_arg2 (ix2 (y 0) k)) = fun k => m ((c.tc : Thread Cert.Kernel4Ideal.nD Cert.Kernel4Ideal.τ).loc Cert.Kernel4Ideal.main_arg2) (ix2 (y 0) k) := by
    rw [Cert.Kernel4Ideal.Ffn.V_right m c]
  have ex := congr (congr (congr (congrArg mixRow e0) e1) e2) (funext fun k => funext fun q => Cert.Kernel4Ideal.Ffn.V_mix m c (ix3 0 k q))
  exact congrFun (congr (congr (congr (congrArg ffnRow ex) (funext fun k => Cert.Kernel4Ideal.Ffn.V_gains m c k))
    (funext fun d => funext fun j => Cert.Kernel4Ideal.Ffn.V_wi m c (ix4 0 1 d j))) (funext fun j => funext fun k => Cert.Kernel4Ideal.Ffn.V_wo m c (ix4 0 1 j k))) (y 1)

/-- The second feed-forward of the second layer, after the state-space mixer's output step. -/
theorem glu_eq (m : (ℓ : Loc Cert.Kernel3Ideal.nD Cert.Kernel3Ideal.τ Cert.Kernel3Ideal.sig) → Buf (Elt Ideal) ℓ) (c : Dev Cert.Kernel3Ideal.nD) :
    (Cert.Kernel3Ideal.Gen.dats m 0 c).arrAt 9 Cert.Kernel3Ideal.cfg0.N = Cert.Reference3Ideal.Read.val_main_v59 (F := Ideal)
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) := by
  funext y
  refine (congrFun (Cert.Kernel3Ideal.Ffn.arr_eq m c) y).trans (Eq.trans ?_ (Cert.Reference3Ideal.Ffn.result_apply _ _ _ _ _ _ _ _ y).symm)
  have e0 : (fun k => Cert.Kernel3Ideal.Gen.V m c Cert.Kernel3Ideal.main_arg0 (ix2 (y 0) k)) = fun k => m ((c.tc : Thread Cert.Kernel3Ideal.nD Cert.Kernel3Ideal.τ).loc Cert.Kernel3Ideal.main_arg0) (ix2 (y 0) k) := by
    rw [Cert.Kernel3Ideal.Ffn.V_rows m c]
  have e1 : (fun k => Cert.Kernel3Ideal.Gen.V m c Cert.Kernel3Ideal.main_arg1 (ix2 (y 0) k)) = fun k => m ((c.tc : Thread Cert.Kernel3Ideal.nD Cert.Kernel3Ideal.τ).loc Cert.Kernel3Ideal.main_arg1) (ix2 (y 0) k) := by
    rw [Cert.Kernel3Ideal.Ffn.V_input m c]
  have e2 : (fun k => Cert.Kernel3Ideal.Gen.V m c Cert.Kernel3Ideal.main_arg2 (ix2 (y 0) k)) = fun k => m ((c.tc : Thread Cert.Kernel3Ideal.nD Cert.Kernel3Ideal.τ).loc Cert.Kernel3Ideal.main_arg2) (ix2 (y 0) k) := by
    rw [Cert.Kernel3Ideal.Ffn.V_state m c]
  have ex := congr (congr (congr (congr (congrArg gluRow e0) e1) e2) (funext fun k => Cert.Kernel3Ideal.Ffn.V_skip m c k))
    (funext fun k => funext fun q => Cert.Kernel3Ideal.Ffn.V_glu m c (ix3 0 k q))
  exact congrFun (congr (congr (congr (congrArg ffnRow ex) (funext fun k => Cert.Kernel3Ideal.Ffn.V_gains m c k))
    (funext fun d => funext fun j => Cert.Kernel3Ideal.Ffn.V_wi m c (ix4 1 1 d j))) (funext fun j => funext fun k => Cert.Kernel3Ideal.Ffn.V_wo m c (ix4 1 1 j k))) (y 1)

/-- The second feed-forward of the fourth layer, after the state-space mixer's output step, normalised. -/
theorem last_eq (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 9 Cert.Kernel2Ideal.cfg0.N = Cert.Reference2Ideal.Read.val_main_v72 (F := Ideal)
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) := by
  funext y
  refine (congrFun (Cert.Kernel2Ideal.Ffn.arr_eq m c) y).trans (Eq.trans ?_ (Cert.Reference2Ideal.Ffn.result_apply _ _ _ _ _ _ _ _ _ y).symm)
  have e0 : (fun k => Cert.Kernel2Ideal.Gen.V m c Cert.Kernel2Ideal.main_arg0 (ix2 (y 0) k)) = fun k => m ((c.tc : Thread Cert.Kernel2Ideal.nD Cert.Kernel2Ideal.τ).loc Cert.Kernel2Ideal.main_arg0) (ix2 (y 0) k) := by
    rw [Cert.Kernel2Ideal.Ffn.V_rows m c]
  have e1 : (fun k => Cert.Kernel2Ideal.Gen.V m c Cert.Kernel2Ideal.main_arg1 (ix2 (y 0) k)) = fun k => m ((c.tc : Thread Cert.Kernel2Ideal.nD Cert.Kernel2Ideal.τ).loc Cert.Kernel2Ideal.main_arg1) (ix2 (y 0) k) := by
    rw [Cert.Kernel2Ideal.Ffn.V_input m c]
  have e2 : (fun k => Cert.Kernel2Ideal.Gen.V m c Cert.Kernel2Ideal.main_arg2 (ix2 (y 0) k)) = fun k => m ((c.tc : Thread Cert.Kernel2Ideal.nD Cert.Kernel2Ideal.τ).loc Cert.Kernel2Ideal.main_arg2) (ix2 (y 0) k) := by
    rw [Cert.Kernel2Ideal.Ffn.V_state m c]
  have ex := congr (congr (congr (congr (congrArg gluRow e0) e1) e2) (funext fun k => Cert.Kernel2Ideal.Ffn.V_skip m c k))
    (funext fun k => funext fun q => Cert.Kernel2Ideal.Ffn.V_glu m c (ix3 1 k q))
  exact congrFun (congr (congrArg normRow (congr (congr (congr (congrArg ffnRow ex) (funext fun k => Cert.Kernel2Ideal.Ffn.V_gains m c k))
    (funext fun d => funext fun j => Cert.Kernel2Ideal.Ffn.V_wi m c (ix4 3 1 d j))) (funext fun j => funext fun k => Cert.Kernel2Ideal.Ffn.V_wo m c (ix4 3 1 j k))))
    (funext fun k => Cert.Kernel2Ideal.Ffn.V_final m c k)) (y 1)

/-- The projection in front of the first layer's mixer. -/
theorem proj_eq (m : (ℓ : Loc Cert.Kernel7Ideal.nD Cert.Kernel7Ideal.τ Cert.Kernel7Ideal.sig) → Buf (Elt Ideal) ℓ) (c : Dev Cert.Kernel7Ideal.nD) :
    (Cert.Kernel7Ideal.Gen.dats m 0 c).arrAt 3 Cert.Kernel7Ideal.cfg0.N = Cert.Reference7Ideal.Read.val_main_v19 (F := Ideal)
      (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) := by
  funext y
  refine (congrFun (Cert.Kernel7Ideal.Ffn.arr_eq m c) y).trans (Eq.trans ?_ (Cert.Reference7Ideal.Ffn.result_apply _ _ _ y).symm)
  have ex : (fun k => Cert.Kernel7Ideal.Gen.V m c Cert.Kernel7Ideal.main_arg0 (ix2 (y 1) k)) = fun k => m ((c.tc : Thread Cert.Kernel7Ideal.nD Cert.Kernel7Ideal.τ).loc Cert.Kernel7Ideal.main_arg0) (ix2 (y 1) k) := by
    rw [Cert.Kernel7Ideal.Ffn.V_rows m c]
  exact congrFun (congr (congr (congrArg Cert.Kernel7Ideal.Ffn.projRow ex) (funext fun k => Cert.Kernel7Ideal.Ffn.V_gains m c k))
    (funext fun k => funext fun j => Cert.Kernel7Ideal.Ffn.V_proj m c k j)) _

end Cert.Ffn

end
-- ==== Proof.Sums.Tile.lean ====
/-
  The chunk sums of the state-space mixer: what one grid point of the kernel computes. A point takes 16384 rows of 128 channels, which
  are eight groups of 16 channels. It lays the 16 rows of each chunk side by side, and multiplies the result by a table in which each
  group's weights stand in that group's own 128 columns, with zeros in the rows of the other groups.
-/
module

public import proofs.«01_k».proof.Proof.Gen.Kernel8Ideal.Value
public import proofs.«01_k».proof.Proof.Ffn.Tile
public import Idealize.ShloMosaic.Lib.Pipeline.ValueKit

@[expose] public section

set_option maxRecDepth 16384

noncomputable section

namespace Cert.Kernel8Ideal.Sums

open Idealize.ShloMosaic Idealize.ShloMosaic.TcCoe Idealize.ShloMosaic.Tactic
open Idealize.ShloMosaic.Pipeline (Dat Cfg Window)
open Cert.Kernel8Ideal.Gen Cert.Ffn
open Idealize.ShloMosaic.ValueIdx (slice2_axis1_apply)

section
variable {F : FTy → Type} [FloatOps F]

/-- The table's rows of group `g`, zero elsewhere. -/
def masked (w : FVec F S2048x128 .bf16) (g : BitVec 32) : FVec F S2048x128 .bf16 :=
  shapeCast S2048x128 (select (cmpi .eq k0_pay3 (broadcast S2048x128 g)) w (broadcast S2048x128 (Scalar.ofBits .bf16 0x0000#16 : F .bf16)))
    shapeCasts_S2048x128_S2048x128

/-- The widened table: 128 columns for each group, with that group's rows in them. -/
def wide (w : FVec F S2048x128 .bf16) (y : S2048x1024.Idx) : F .bf16 :=
  masked w (BitVec.ofNat 32 ((y 1).val / 128)) (ix2 (y 0) ⟨(y 1).val % 128, by omega⟩)

/-- The 128 columns stored for group `g` are that part of the widened table. -/
theorem masked_eq (w : FVec F S2048x128 .bf16) (g : Nat)
    (inb : ∀ a, (![0, 128 * g] : Fin 2 → Nat) a + (![2048, 128] : Fin 2 → Nat) a ≤ S2048x1024.size a)
    (x : (Rect.unit (s := S2048x1024) ![0, 128 * g] ![2048, 128] inb).shape.Idx) :
    masked w (BitVec.ofNat 32 g) x = wide w ((Rect.unit (s := S2048x1024) ![0, 128 * g] ![2048, 128] inb).emb x) := by
  obtain ⟨r, l, rfl⟩ : ∃ (r : Fin 2048) (l : Fin 128), x = ix2 r l := ⟨x 0, x 1, eq_ix2 x⟩
  unfold wide
  refine congr (congrArg (fun n : Nat => masked w (BitVec.ofNat 32 n)) ?_) (congrArg₂ ix2 (Fin.ext ?_) (Fin.ext ?_))
  · show g = (128 * g + 1 * l.val) / 128; omega
  · show r.val = 0 + 1 * r.val; omega
  · show l.val = (128 * g + 1 * l.val) % 128; omega

/-- What a load of a box of `x` returns. -/
def load {s : Shape} {e : EltTy} (x : Vec F s e) (r : LoadRect s) : Vec F r.shape e := fun i => x (r.idx i)

/-- A load from a whole buffer returns a box of the buffer's contents. -/
theorem load_eq {sp : Space} {s : Shape} {e : EltTy} {M : Memref sig .tc sp s e} (h : M.IsWhole) (r : LoadRect s) (x : Vec F s e) :
    M.view.readAt (Elt F) r (h.unread x) = load x r :=
  funext fun i => congrFun (h.read_unread x) (r.idx i)

/-- What the first point of a block leaves in the scratch is the widened table. -/
theorem scratch_eq (c : Dev nD) (i : grid0.Coords) (arg2 : Memref sig .tc .vmem S16384x128 .f32) (harg2 : arg2.IsWhole)
    (arg3 : Memref sig .tc .vmem S1x2048x128 .bf16) (harg3 : arg3.IsWhole) (arg4 : Memref sig .tc .vmem S1024x8x128 .f32)
    (harg4 : arg4.IsWhole) (arg5 : Memref sig .tc .vmem S2048x1024 .bf16) (harg5 : arg5.IsWhole) (hc : cond0_0 i)
    (x0 : Vec F S16384x128 .f32) (x1 : Vec F S1x2048x128 .bf16) :
    sout0_A_0 c i arg2 harg2 arg3 harg3 arg4 harg4 arg5 harg5 hc x0 x1
      = wide (shapeCast S2048x128 x1 shapeCasts_S1x2048x128_S2048x128) := by
  funext y
  unfold sout0_A_0
  rw [View.read_writes_junk_eq_canon]
  refine View.canon_apply_of_pieces _ _ ?_ y (scover0_A_0 c i arg2 harg2 arg3 harg3 arg4 harg4 arg5 harg5 hc x0 x1 y)
  unfold kernelRun0_A
  dsimp only
  have e : load x1 (Rect.unit (s := S1x2048x128) ![0, 0, 0] S1x2048x128.size inb_S1x2048x128_S1x2048x128_0_0_0).toLoadRect = x1 :=
    View.ld_unit_lit _ x1 (by decide)
  sl_unfold_words
  simp only [List.forall_mem_cons, List.not_mem_nil, false_imp_iff, implies_true, and_true, load_eq, e]
  generalize shapeCast S2048x128 x1 shapeCasts_S1x2048x128_S2048x128 = w
  have hp := fun g inb x => masked_eq w g inb x
  refine ⟨?_, ?_, ?_, ?_, ?_, ?_, ?_, ?_⟩ <;> intro x
  · exact Eq.trans (congrFun rfl x) (hp 7 _ x)
  · exact Eq.trans (congrFun rfl x) (hp 6 _ x)
  · exact Eq.trans (congrFun rfl x) (hp 5 _ x)
  · exact Eq.trans (congrFun rfl x) (hp 4 _ x)
  · exact Eq.trans (congrFun rfl x) (hp 3 _ x)
  · exact Eq.trans (congrFun rfl x) (hp 2 _ x)
  · exact Eq.trans (congrFun rfl x) (hp 1 _ x)
  · exact Eq.trans (congrFun rfl x) (hp 0 _ x)

/-- Row `k` of every chunk. -/
def row (x : Vec F S16384x128 .f32) (k : Nat) (hk : k < 16) : Vec F S1024x128 .f32 := fun i =>
  x (ix2 ⟨16 * (i 0).val + k, by have h : (i 0).val < 1024 := (i 0).isLt; omega⟩ (i 1))

/-- The load with stride 16 that starts at row `k` returns row `k` of every chunk. -/
theorem row_eq (x : Vec F S16384x128 .f32) (k : Nat) (hk : k < 16)
    (inb : ∀ a, (![1024, 128] : Fin 2 → Nat) a = 0
      ∨ (![k, 0] : Fin 2 → Nat) a + (![16, 1] : Fin 2 → Nat) a * ((![1024, 128] : Fin 2 → Nat) a - 1) < S16384x128.size a) :
    load x (⟨![k, 0], ![1024, 128], ![16, 1], inb⟩ : LoadRect S16384x128) = row x k hk :=
  funext fun i => congrArg x (funext fun a => Fin.ext (match a with
    | ⟨0, _⟩ => by show k + 16 * (i 0).val = 16 * (i 0).val + k; omega
    | ⟨1, _⟩ => by show 0 + 1 * (i 1).val = (i 1).val; omega))

/-- The 16 rows of each chunk, side by side. -/
def rows (x : Vec F S16384x128 .f32) : FVec F S1024x2048 .bf16 :=
  truncf .bf16 (concatenate S1024x2048 1 (List.ofFn fun k : Fin 16 => (⟨S1024x128, row x k.val k.isLt⟩ : (s : Shape) × (s.Idx → F .f32)))
    concatenates_S1024x128_S1024x128_S1024x128_S1024x128_S1024x128_S1024x128_S1024x128_S1024x128_S1024x128_S1024x128_S1024x128_S1024x128_S1024x128_S1024x128_S1024x128_S1024x128_S1024x2048_d1)
    bitsLt_bf16_f32

/-- The product of the chunks with a widened table. -/
def products (x : Vec F S16384x128 .f32) (w : Vec F S2048x1024 .bf16) : FVec F S1024x1024 .f32 :=
  matmul (DotDims.plain 1024 2048 1024) none (rows x) w (constant S1024x1024 .f32 0x00000000#32)

/-- The 128 columns of a group, as they are stored. -/
def group (p : FVec F S1024x1024 .f32) (o : Nat) (ho : o ≤ 896) : FVec F S1024x1x128 .f32 :=
  shapeCast S1024x1x128 (extractStridedSlice S1024x128 ![0, o] p (⟨rfl, fun a => match a with
    | ⟨0, _⟩ => by show 0 + 1024 ≤ 1024; omega
    | ⟨1, _⟩ => by show o + 128 ≤ 1024; omega⟩ : S1024x1024.Slices ![0, o] S1024x128)) shapeCasts_S1024x128_S1024x1x128

/-- The column that entry `l` of group `g` is. -/
def groupCol (g : Fin 8) (l : Fin 128) : Fin 1024 := ⟨128 * g.val + l.val, by omega⟩

/-- The whole output block of a grid point, entry by entry. -/
def groups (p : FVec F S1024x1024 .f32) (y : S1024x8x128.Idx) : F .f32 := p (ix2 (y 0) (groupCol (y 1) (y 2)))

/-- What is stored for group `g` is that part of `groups`. -/
theorem group_eq (p : FVec F S1024x1024 .f32) (g : Nat) (hg : g < 8)
    (inb : ∀ a, (![0, g, 0] : Fin 3 → Nat) a + (![1024, 1, 128] : Fin 3 → Nat) a ≤ S1024x8x128.size a)
    (x : (Rect.unit (s := S1024x8x128) ![0, g, 0] ![1024, 1, 128] inb).shape.Idx) :
    group p (128 * g) (by omega) x = groups p ((Rect.unit (s := S1024x8x128) ![0, g, 0] ![1024, 1, 128] inb).emb x) := by
  obtain ⟨r, z, l, rfl⟩ : ∃ (r : Fin 1024) (z : Fin 1) (l : Fin 128), x = ix3 r z l := ⟨x 0, x 1, x 2, eq_ix3 x⟩
  refine (shapeCast_apply _ _ (ix3 r z l) (ix2 r l) ?_).trans
    ((slice2_axis1_apply (128 * g) p _ r l (groupCol ⟨g, hg⟩ l) rfl).trans ?_)
  · rw [Shape.rowMajor_val_two, Shape.rowMajor_val_three]
    show r.val * 128 + l.val = (r.val * 1 + z.val) * 128 + l.val
    omega
  refine congrArg p (congrArg₂ ix2 (Fin.ext ?_) (Fin.ext ?_))
  · show r.val = 0 + 1 * r.val; omega
  · show 128 * g + l.val = 128 * (g + 1 * z.val) + (0 + 1 * l.val); omega

/-- The product as the kernel spells it. -/
theorem products_eq (x : Vec F S16384x128 .f32) (w : Vec F S2048x1024 .bf16) :
    k0_pay13 (k0_pay12 (row x 0 (by decide)) (row x 1 (by decide)) (row x 2 (by decide)) (row x 3 (by decide)) (row x 4 (by decide))
      (row x 5 (by decide)) (row x 6 (by decide)) (row x 7 (by decide)) (row x 8 (by decide)) (row x 9 (by decide)) (row x 10 (by decide))
      (row x 11 (by decide)) (row x 12 (by decide)) (row x 13 (by decide)) (row x 14 (by decide)) (row x 15 (by decide))) w = products x w := rfl

/-- The eight stores of the output block. -/
theorem stores (p : FVec F S1024x1024 .f32) :
    (∀ x, group p 896 (by decide) x = groups p ((Rect.unit (s := S1024x8x128) ![0, 7, 0] S1024x1x128.size inb_S1024x8x128_S1024x1x128_0_7_0).emb x)) ∧
    (∀ x, group p 768 (by decide) x = groups p ((Rect.unit (s := S1024x8x128) ![0, 6, 0] S1024x1x128.size inb_S1024x8x128_S1024x1x128_0_6_0).emb x)) ∧
    (∀ x, group p 640 (by decide) x = groups p ((Rect.unit (s := S1024x8x128) ![0, 5, 0] S1024x1x128.size inb_S1024x8x128_S1024x1x128_0_5_0).emb x)) ∧
    (∀ x, group p 512 (by decide) x = groups p ((Rect.unit (s := S1024x8x128) ![0, 4, 0] S1024x1x128.size inb_S1024x8x128_S1024x1x128_0_4_0).emb x)) ∧
    (∀ x, group p 384 (by decide) x = groups p ((Rect.unit (s := S1024x8x128) ![0, 3, 0] S1024x1x128.size inb_S1024x8x128_S1024x1x128_0_3_0).emb x)) ∧
    (∀ x, group p 256 (by decide) x = groups p ((Rect.unit (s := S1024x8x128) ![0, 2, 0] S1024x1x128.size inb_S1024x8x128_S1024x1x128_0_2_0).emb x)) ∧
    (∀ x, group p 128 (by decide) x = groups p ((Rect.unit (s := S1024x8x128) ![0, 1, 0] S1024x1x128.size inb_S1024x8x128_S1024x1x128_0_1_0).emb x)) ∧
    (∀ x, group p 0 (by decide) x = groups p ((Rect.unit (s := S1024x8x128) ![0, 0, 0] S1024x1x128.size inb_S1024x8x128_S1024x1x128_0_0_0).emb x)) :=
  ⟨group_eq p 7 (by decide) _,
    group_eq p 6 (by decide) _,
    group_eq p 5 (by decide) _,
    group_eq p 4 (by decide) _,
    group_eq p 3 (by decide) _,
    group_eq p 2 (by decide) _,
    group_eq p 1 (by decide) _,
    group_eq p 0 (by decide) _⟩

/-- What a point that finds the table in the scratch leaves in its output block. -/
theorem out_B_eq (c : Dev nD) (i : grid0.Coords) (arg2 : Memref sig .tc .vmem S16384x128 .f32) (harg2 : arg2.IsWhole)
    (arg3 : Memref sig .tc .vmem S1x2048x128 .bf16) (harg3 : arg3.IsWhole) (arg4 : Memref sig .tc .vmem S1024x8x128 .f32)
    (harg4 : arg4.IsWhole) (arg5 : Memref sig .tc .vmem S2048x1024 .bf16) (harg5 : arg5.IsWhole) (hc : ¬cond0_0 i)
    (x0 : Vec F S16384x128 .f32) (x1 : Vec F S1x2048x128 .bf16) (xs : Vec F S2048x1024 .bf16) :
    out0_B_2 c i arg2 harg2 arg3 harg3 arg4 harg4 arg5 harg5 hc x0 x1 xs = groups (products x0 xs) := by
  funext y
  unfold out0_B_2
  rw [View.read_writes_junk_eq_canon]
  refine View.canon_apply_of_pieces _ _ ?_ y (cover0_B_2 c i arg2 harg2 arg3 harg3 arg4 harg4 arg5 harg5 hc x0 x1 xs y)
  unfold kernelRun0_B
  dsimp only
  sl_unfold_words
  have e : load xs (Rect.unit (s := S2048x1024) ![0, 0] S2048x1024.size inb_S2048x1024_S2048x1024_0_0).toLoadRect = xs :=
    View.ld_unit_lit _ xs (by decide)
  simp only [List.forall_mem_cons, List.not_mem_nil, false_imp_iff, implies_true, and_true, load_eq, e, k0_pay1, k0_pay14, k0_pay15, k0_pay16,
    k0_pay17, k0_pay18, k0_pay19, k0_pay20, k0_pay21]
  simp (disch := decide) only [row_eq x0, products_eq]
  generalize products x0 xs = p
  exact stores p

/-- What a point that fills the scratch leaves in its output block: the product with the widened table. -/
theorem out_A_eq (c : Dev nD) (i : grid0.Coords) (arg2 : Memref sig .tc .vmem S16384x128 .f32) (harg2 : arg2.IsWhole)
    (arg3 : Memref sig .tc .vmem S1x2048x128 .bf16) (harg3 : arg3.IsWhole) (arg4 : Memref sig .tc .vmem S1024x8x128 .f32)
    (harg4 : arg4.IsWhole) (arg5 : Memref sig .tc .vmem S2048x1024 .bf16) (harg5 : arg5.IsWhole) (hc : cond0_0 i)
    (x0 : Vec F S16384x128 .f32) (x1 : Vec F S1x2048x128 .bf16) :
    out0_A_2 c i arg2 harg2 arg3 harg3 arg4 harg4 arg5 harg5 hc x0 x1
      = groups (products x0 (wide (shapeCast S2048x128 x1 shapeCasts_S1x2048x128_S2048x128))) := by
  rw [← scratch_eq c i arg2 harg2 arg3 harg3 arg4 harg4 arg5 harg5 hc x0 x1]
  have e : View.readCov arg5.view (kernelRun0_A c i arg2 harg2 arg3 harg3 arg4 harg4 arg5 harg5 hc x0 x1).2.1
      (Rect.unit (s := S2048x1024) ![0, 0] S2048x1024.size inb_S2048x1024_S2048x1024_0_0).toLoadRect
      = sout0_A_0 c i arg2 harg2 arg3 harg3 arg4 harg4 arg5 harg5 hc x0 x1 := by
    unfold sout0_A_0
    rw [View.readCov_eq_canon', View.read_writes_junk_eq_canon]
    exact View.ld_unit_lit _ _ (by decide)
  generalize sout0_A_0 c i arg2 harg2 arg3 harg3 arg4 harg4 arg5 harg5 hc x0 x1 = xs at e
  funext y
  unfold out0_A_2
  rw [View.read_writes_junk_eq_canon]
  refine View.canon_apply_of_pieces _ _ ?_ y (cover0_A_2 c i arg2 harg2 arg3 harg3 arg4 harg4 arg5 harg5 hc x0 x1 y)
  revert e
  unfold kernelRun0_A
  dsimp only
  sl_unfold_words
  intro e
  simp only [List.forall_mem_cons, List.not_mem_nil, false_imp_iff, implies_true, and_true, e]
  clear e
  simp only [load_eq, k0_pay1, k0_pay14, k0_pay15, k0_pay16, k0_pay17, k0_pay18, k0_pay19, k0_pay20, k0_pay21]
  simp (disch := decide) only [row_eq x0, products_eq]
  generalize products x0 xs = p
  exact stores p
end

end Cert.Kernel8Ideal.Sums

end
-- ==== Proof.Sums.Array.lean ====
/-
  The chunk sums: the kernel's output array, entry by entry, and the reference's.
-/
module

public import proofs.«01_k».proof.Proof.Sums.Tile
public import proofs.«01_k».proof.Proof.Gen.Reference8Ideal.Read

@[expose] public section

set_option maxRecDepth 16384

noncomputable section

namespace Cert.Kernel8Ideal.Sums

open Idealize.ShloMosaic Idealize.ShloMosaic.TcCoe Idealize.ShloMosaic.Tactic
open Idealize.ShloMosaic.Pipeline (Dat Cfg Window)
open Cert.Kernel8Ideal.Gen Cert.Ffn

/-- The group that row `r` of the table belongs to, as the kernel computes it. -/
theorem rowGroup_apply (r : Fin 2048) (l : Fin 128) : k0_pay3 (ix2 r l) = BitVec.ofNat 32 (r.val % 128 / 16) := by
  pointwise [k0_pay3]
  revert r
  decide +kernel

/-- Group numbers are told apart by their words. -/
theorem word_eq : ∀ a b : Fin 8, (IntOp.cmpi .eq (BitVec.ofNat 32 a.val) (BitVec.ofNat 32 b.val)) = if a.val = b.val then 1#1 else 0#1 := by
  decide +kernel

/-- The widened table, entry by entry. -/
theorem wide_apply (w : FVec Ideal S2048x128 .bf16) (r : Fin 2048) (g : Fin 8) (l : Fin 128) :
    wide w (ix2 r (groupCol g l)) = if r.val % 128 / 16 = g.val then w (ix2 r l) else 0 := by
  unfold wide masked groupCol
  pointwise []
  have e : (128 * g.val + l.val) / 128 = g.val := by omega
  have e' : (⟨(128 * g.val + l.val) % 128, Nat.mod_lt _ (by decide)⟩ : Fin 128) = l := Fin.ext (by show (128 * g.val + l.val) % 128 = l.val; omega)
  rw [e, e', rowGroup_apply, word_eq ⟨r.val % 128 / 16, by omega⟩ g]
  by_cases h : r.val % 128 / 16 = g.val
  · rw [if_pos h, if_pos h]; rfl
  · rw [if_neg h, if_neg h]; rfl

/-- The chunks laid side by side, entry by entry. -/
theorem rows_apply (x : Vec Ideal S16384x128 .f32) (n : Fin 1024) (k : Fin 16) (l : Fin 128) :
    rows x (ix2 n (⟨128 * k.val + l.val, by omega⟩ : Fin 2048)) = x (ix2 ⟨16 * n.val + k.val, by omega⟩ l) := by
  refine (concatenate_ofFn_apply (t := S1024x2048) 1 (fun k : Fin 16 => row x k.val k.isLt)
    concatenates_S1024x128_S1024x128_S1024x128_S1024x128_S1024x128_S1024x128_S1024x128_S1024x128_S1024x128_S1024x128_S1024x128_S1024x128_S1024x128_S1024x128_S1024x128_S1024x128_S1024x2048_d1 rfl 128 rfl (ix2 n (⟨128 * k.val + l.val, by omega⟩ : Fin 2048)) k ?_
    (ix2 n l) ?_ ?_).trans rfl
  · show (128 * k.val + l.val) / 128 = k.val; omega
  · show l.val = (128 * k.val + l.val) % 128; omega
  · intro b hb
    match b with
    | ⟨0, _⟩ => rfl
    | ⟨1, _⟩ => exact absurd rfl hb

/-- A sum over the 2048 rows of the table, by chunk row, group and channel. -/
theorem sum_cut (f : Fin 2048 → EReal) :
    ∑ r, f r = ∑ t : Fin 16, ∑ q : Fin 8, ∑ c : Fin 16, f ⟨128 * t.val + (16 * q.val + c.val), by omega⟩ := by
  have e : ∑ r, f r = ∑ t : Fin 16, ∑ l : Fin 128, f ⟨128 * t.val + l.val, by omega⟩ := by
    refine ((finProdFinEquiv (m := 16) (n := 128)).sum_comp f).symm.trans ((Fintype.sum_prod_type _).trans ?_)
    exact Finset.sum_congr rfl fun t _ => Finset.sum_congr rfl fun l _ => congrArg f (Fin.ext (Nat.add_comm _ _))
  refine e.trans (Finset.sum_congr rfl fun t _ => ?_)
  refine ((finProdFinEquiv (m := 8) (n := 16)).sum_comp fun l : Fin 128 => f ⟨128 * t.val + l.val, by omega⟩).symm.trans
    ((Fintype.sum_prod_type _).trans ?_)
  exact Finset.sum_congr rfl fun q _ => Finset.sum_congr rfl fun c _ =>
    congrArg f (Fin.ext (congrArg (128 * t.val + ·) (Nat.add_comm _ _)))

/-- A chunk's sum for one group: over the chunk's 16 rows and the group's 16 channels. -/
def chunkSum (u : Fin 16 → Fin 16 → EReal) (w : Fin 16 → Fin 16 → EReal) : EReal := ∑ t, ∑ c, u t c * w t c

/-- The product with the widened table: only the rows of the column's own group count. -/
theorem products_apply (x : Vec Ideal S16384x128 .f32) (w : FVec Ideal S2048x128 .bf16) (n : Fin 1024) (g : Fin 8) (l : Fin 128) :
    products x (wide w) (ix2 n (groupCol g l))
      = chunkSum (fun t c => x (ix2 ⟨16 * n.val + t.val, by omega⟩ ⟨16 * g.val + c.val, by omega⟩))
          (fun t c => w (ix2 ⟨128 * t.val + (16 * g.val + c.val), by omega⟩ l)) := by
  refine (product_apply _ _ n (groupCol g l)).trans ((sum_cut _).trans (Finset.sum_congr rfl fun t _ => ?_))
  refine (Finset.sum_eq_single g (fun q _ hq => Finset.sum_eq_zero fun c _ => ?_) (fun h => absurd (Finset.mem_univ _) h)).trans
    (Finset.sum_congr rfl fun c _ => ?_)
  · rw [wide_apply, if_neg (fun h => hq (Fin.ext (by have := h; simp only at this; omega)))]
    exact mul_zero _
  · rw [wide_apply, if_pos (by show (128 * t.val + (16 * g.val + c.val)) % 128 / 16 = g.val; omega)]
    exact congrArg (fun v : EReal => v * _) (rows_apply x n t ⟨16 * g.val + c.val, by omega⟩)

theorem index0 : ∀ t : Fin grid0.N, win0_0.index t = ![(grid0.coords t 1).val, (grid0.coords t 0).val] := by decide +kernel
theorem index1 : ∀ t : Fin grid0.N, win0_1.index t = ![(grid0.coords t 0).val, 0, 0] := by decide +kernel
theorem index2 : ∀ t : Fin grid0.N, win0_2.index t = ![(grid0.coords t 1).val, (grid0.coords t 0).val, 0] := by decide +kernel

/-- A point that does not fill the scratch works on the table of the point before it. -/
theorem same_table : ∀ t : Fin grid0.N, ¬t.val % 2 = 0 →
    (grid0.coords ⟨t.val - 1, Nat.lt_of_le_of_lt (Nat.sub_le _ _) t.isLt⟩ 0).val = (grid0.coords t 0).val := by decide +kernel

variable (m : (ℓ : Loc nD τ sig) → Buf (Elt Ideal) ℓ)

/-- The block of the table that a point is given. -/
theorem table_block (c : Dev nD) (t : Fin grid0.N) (r : Fin 2048) (l : Fin 128) :
    shapeCast S2048x128 (iblk m c 1 t) shapeCasts_S1x2048x128_S2048x128 (ix2 r l)
      = V m c main_v3 (ix3 (⟨(grid0.coords t 0).val, (grid0.coords t 0).isLt⟩ : Fin 8) r l) :=
  (ValueIdx.shapeCast_1ab_ab_apply _ _ r l).trans (by blk_ext [iblk, index1 t])

/-- Every point, the ones that fill the scratch and the ones that find it filled, leaves the product of its rows with its own table. -/
theorem point_eq (c : Dev nD) (t : Fin cfg0.N) :
    (outsAt0 m c t.val t.isLt).1 = groups (products (iblk m c 0 t) (wide (F := Ideal) (shapeCast S2048x128 (iblk m c 1 t) shapeCasts_S1x2048x128_S2048x128))) := by
  by_cases h : t.val % 2 = 0
  · rw [outsAt0_A m c t h]
    dsimp only
    rw [out_A_eq]
  · rw [outsAt0_B m c t h]
    dsimp only
    rw [out_B_eq]
    refine congrArg (fun w : Vec Ideal S2048x1024 .bf16 => groups (F := Ideal) (products (iblk m c 0 t) w)) ?_
    rw [outsAt0_A m c ⟨t.val - 1, Nat.lt_of_le_of_lt (Nat.sub_le _ _) t.isLt⟩ (by show (t.val - 1) % 2 = 0; omega)]
    dsimp only
    rw [scratch_eq]
    refine congrArg (wide (F := Ideal)) (funext fun y => ?_)
    obtain ⟨r, l, rfl⟩ : ∃ (r : Fin 2048) (l : Fin 128), y = ix2 r l := ⟨y 0, y 1, eq_ix2 y⟩
    refine (table_block m c _ r l).trans (Eq.trans ?_ (table_block m c t r l).symm)
    exact congrArg (V m c main_v3) (congrArg (fun j => ix3 j r l) (Fin.ext (same_table t h)))

/-- Chunk `n`'s sum for column `l` of group `g`, from the rows and the table as the launch finds it. -/
def sumAt (x : S32768x1024.Idx → EReal) (w : S8x2048x128.Idx → EReal) (n : Fin 2048) (g : Fin 64) (l : Fin 128) : EReal := chunkSum
  (fun t k => x (ix2 (⟨16 * n.val + t.val, by omega⟩ : Fin 32768) (⟨16 * g.val + k.val, by omega⟩ : Fin 1024)))
  (fun t k => w (ix3 (⟨g.val / 8, by omega⟩ : Fin 8) (⟨128 * t.val + (16 * (g.val % 8) + k.val), by omega⟩ : Fin 2048) l))

/-- The output array, from the arrays the kernel is launched on. -/
theorem arr_eq (c : Dev nD) :
    (dats m 0 c).arrAt 2 cfg0.N = fun y : S2048x64x128.Idx => sumAt (V m c main_arg0) (V m c main_v3) (y 0) (y 1) (y 2) := by
  refine (dats m 0 c).arrAt_eq_of_covers 2 _ (by decide +kernel) fun t hf y => ?_
  blk_simp
  rw [after0_2]
  have h0 : (grid0.coords t 0).val < 8 := (grid0.coords t 0).isLt
  have h1 : (grid0.coords t 1).val < 2 := (grid0.coords t 1).isLt
  obtain ⟨n, g, l, rfl⟩ : ∃ (n : Fin 1024) (g : Fin 8) (l : Fin 128), y = ix3 n g l := ⟨y 0, y 1, y 2, eq_ix3 y⟩
  have e : (win0_2.blk t).view.emb (ix3 n g l)
      = (ix3 ⟨1024 * (grid0.coords t 1).val + n.val, by omega⟩ ⟨8 * (grid0.coords t 0).val + g.val, by omega⟩ l : S2048x64x128.Idx) := by
    blk_ext [index2 t]
  rw [e, point_eq]
  refine (products_apply _ _ n g l).trans (congr (congrArg chunkSum (funext fun s => funext fun k => ?_)) (funext fun s => funext fun k => ?_))
  · show _ = V m c main_arg0 (ix2 ⟨16 * (1024 * (grid0.coords t 1).val + n.val) + s.val, _⟩ ⟨16 * (8 * (grid0.coords t 0).val + g.val) + k.val, _⟩)
    blk_ext [iblk, index0 t]
  · refine (table_block m c t _ l).trans (congrArg (V m c main_v3) (congrArg₂ (fun j r => ix3 j r l) (Fin.ext ?_) (Fin.ext ?_)))
    · show (grid0.coords t 0).val = (8 * (grid0.coords t 0).val + g.val) / 8; omega
    · show 128 * s.val + (16 * g.val + k.val) = 128 * s.val + (16 * ((8 * (grid0.coords t 0).val + g.val) % 8) + k.val); omega

theorem V_rows (c : Dev nD) : V m c main_arg0 = m ((c.tc : Thread nD τ).loc main_arg0) := by
  unfold V
  simp only [hostOps0, List.flatten_cons, List.flatten_nil, List.cons_append, List.nil_append]
  after_results_simp

/-- The table as the launch finds it: row (t, q, k) of block j is row (t, k) of group 8 j + q. -/
theorem V_table (c : Dev nD) (g : Fin 64) (t k : Fin 16) (l : Fin 128) :
    V m c main_v3 (ix3 (⟨g.val / 8, by omega⟩ : Fin 8) (⟨128 * t.val + (16 * (g.val % 8) + k.val), by omega⟩ : Fin 2048) l)
      = m ((c.tc : Thread nD τ).loc main_arg1) (ix3 g (⟨16 * t.val + k.val, by omega⟩ : Fin 256) l) := by
  have e : V m c main_v3 = shapeCast S8x2048x128 (transpose S8x16x8x16x128 [0, 2, 1, 3, 4] (shapeCast S8x8x16x16x128
      (truncf (F := Ideal) .bf16 (m ((c.tc : Thread nD τ).loc main_arg1)) bitsLt_bf16_f32) shapeCasts_S64x256x128_S8x8x16x16x128)
      transposes_S8x8x16x16x128_S8x16x8x16x128_0_2_1_3_4) shapeCasts_S8x16x8x16x128_S8x2048x128 := by
    unfold V
    simp only [hostOps0, List.flatten_cons, List.flatten_nil, List.cons_append, List.nil_append]
    after_results_simp
    after_results_loop
    rfl
  rw [e]
  generalize m ((c.tc : Thread nD τ).loc main_arg1) = A
  refine (shapeCast_apply _ _ _ (ix5 (⟨g.val / 8, by omega⟩ : Fin 8) t (⟨g.val % 8, by omega⟩ : Fin 8) k l) ?_).trans ?_
  · rw [Shape.rowMajor_val_five, Shape.rowMajor_val_three]
    show (((g.val / 8 * 16 + t.val) * 8 + g.val % 8) * 16 + k.val) * 128 + l.val
      = (g.val / 8 * 2048 + (128 * t.val + (16 * (g.val % 8) + k.val))) * 128 + l.val
    omega
  refine (transpose_apply [0, 2, 1, 3, 4] _ _ (ix5 (⟨g.val / 8, by omega⟩ : Fin 8) t (⟨g.val % 8, by omega⟩ : Fin 8) k l)
    (ix5 (⟨g.val / 8, by omega⟩ : Fin 8) (⟨g.val % 8, by omega⟩ : Fin 8) t k l)
    (fun b => match b with
      | ⟨0, _⟩ => rfl
      | ⟨1, _⟩ => rfl
      | ⟨2, _⟩ => rfl
      | ⟨3, _⟩ => rfl
      | ⟨4, _⟩ => rfl)).trans ?_
  refine (shapeCast_apply _ _ _ (ix3 g (⟨16 * t.val + k.val, by omega⟩ : Fin 256) l) ?_).trans rfl
  rw [Shape.rowMajor_val_five, Shape.rowMajor_val_three]
  show (g.val * 256 + (16 * t.val + k.val)) * 128 + l.val
    = (((g.val / 8 * 8 + g.val % 8) * 16 + t.val) * 16 + k.val) * 128 + l.val
  omega

end Cert.Kernel8Ideal.Sums

namespace Cert.Reference8Ideal.Sums

open Idealize.ShloMosaic Idealize.ShloMosaic.TcCoe Idealize.ShloMosaic.Tactic
open Cert.Reference8Ideal.Read Cert.Reference8Ideal.Gen Cert.Kernel8Ideal.Sums

/-- The reference's result, entry by entry. -/
theorem result_apply (x0 : (⟨S32768x1024, .f32⟩ : BufTy).Contents (Elt Ideal)) (x1 : (⟨S64x256x128, .f32⟩ : BufTy).Contents (Elt Ideal))
    (n : Fin 2048) (g : Fin 64) (l : Fin 128) :
    val_main_v3 (F := Ideal) x0 x1 (ix3 n g l) = chunkSum
      (fun t k => x0 (ix2 (⟨16 * n.val + t.val, by omega⟩ : Fin 32768) (⟨16 * g.val + k.val, by omega⟩ : Fin 1024)))
      (fun t k => x1 (ix3 g (⟨16 * t.val + k.val, by omega⟩ : Fin 256) l)) := by
  have e0 : ∀ t k : Fin 16, val_main_v0 (F := Ideal) x0 (ix4 n t g k)
      = x0 (ix2 (⟨16 * n.val + t.val, by omega⟩ : Fin 32768) (⟨16 * g.val + k.val, by omega⟩ : Fin 1024)) := fun t k => by
    refine (shapeCast_apply _ _ _ (ix2 (⟨16 * n.val + t.val, by omega⟩ : Fin 32768) (⟨16 * g.val + k.val, by omega⟩ : Fin 1024)) ?_)
    rw [Shape.rowMajor_val_two, Shape.rowMajor_val_four]
    show (16 * n.val + t.val) * 1024 + (16 * g.val + k.val) = ((n.val * 16 + t.val) * 64 + g.val) * 16 + k.val
    omega
  have e1 : ∀ t k : Fin 16, val_main_v1 (F := Ideal) x1 (ix4 g t k l) = x1 (ix3 g (⟨16 * t.val + k.val, by omega⟩ : Fin 256) l) :=
    fun t k => by
    refine (shapeCast_apply _ _ _ (ix3 g (⟨16 * t.val + k.val, by omega⟩ : Fin 256) l) ?_)
    rw [Shape.rowMajor_val_three, Shape.rowMajor_val_four]
    show (g.val * 256 + (16 * t.val + k.val)) * 128 + l.val = ((g.val * 16 + t.val) * 16 + k.val) * 128 + l.val
    omega
  unfold val_main_v3 val_main_v2
  revert e0 e1
  generalize val_main_v0 (F := Ideal) x0 = u
  generalize val_main_v1 (F := Ideal) x1 = w
  intro e0 e1
  pointwise []
  refine Finset.sum_comm.trans (Finset.sum_congr rfl fun t _ => Finset.sum_congr rfl fun k _ => ?_)
  rw [e0, e1]
  exact mul_comm _ _

end Cert.Reference8Ideal.Sums

namespace Cert.Sums

open Idealize.ShloMosaic Idealize.ShloMosaic.TcCoe Idealize.ShloMosaic.Tactic

/-- The kernel's output array is the reference's result. -/
theorem sums_eq (m : (ℓ : Loc Kernel8Ideal.nD Kernel8Ideal.τ Kernel8Ideal.sig) → Buf (Elt Ideal) ℓ) (c : Dev Kernel8Ideal.nD) :
    (Kernel8Ideal.Gen.dats m 0 c).arrAt 2 Kernel8Ideal.cfg0.N
      = Reference8Ideal.Read.val_main_v3 (F := Ideal) (m ((c.tc : Thread Kernel8Ideal.nD Kernel8Ideal.τ).loc Kernel8Ideal.main_arg0))
          (m ((c.tc : Thread Kernel8Ideal.nD Kernel8Ideal.τ).loc Kernel8Ideal.main_arg1)) := by
  refine (Kernel8Ideal.Sums.arr_eq m c).trans (funext fun y => ?_)
  obtain ⟨n, g, l, rfl⟩ : ∃ (n : Fin 2048) (g : Fin 64) (l : Fin 128), y = ix3 n g l := ⟨y 0, y 1, y 2, eq_ix3 y⟩
  refine Eq.trans ?_ (Reference8Ideal.Sums.result_apply _ _ n g l).symm
  rw [Kernel8Ideal.Sums.V_rows]
  exact congrArg (Kernel8Ideal.Sums.chunkSum _) (funext fun t => funext fun k => Kernel8Ideal.Sums.V_table m c g t k l)

end Cert.Sums

end
-- ==== Proof.lean ====
/-
  The claims, assembled: the kernels' frames are the generated ones, and each value claim is the run of the kernel and of its
  reference with the equality of their output arrays (Proof/Attention/Equation.lean, Proof/Ffn/Equation.lean, Proof/Sums/Array.lean) between them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Attention.Finite
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Ffn.Equation
public import proofs.«01_k».proof.Proof.Sums.Array
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and holds no semaphore. -/
theorem reference_frame : Cert.quiescent_ReferenceIdeal := fun m ρ _ =>
  (θ_run _ _ _).mono (fun r h => ⟨fun c => (h c).2, sem_eq_zero_of_no_sems (by decide) r.2⟩) (Cert.ReferenceIdeal.Value.run m ρ)

/-- The attention's kernel and its reference write the same array. -/
theorem attention_value : Cert.algebraic_KernelIdeal_ReferenceIdeal_pre_finite := fun m ρ m' ρ' hpre hag =>
  ⟨fun c => (Cert.KernelIdeal.Gen.dats m 0 c).arrAt 7 Cert.KernelIdeal.cfg0.N, Cert.KernelIdeal.Value.run_blocks m ρ,
    (θ_run _ _ _).mono (fun r h c => ⟨by
      obtain ⟨h0, h1⟩ := hag c
      obtain ⟨hA, hs⟩ := hpre c
      refine (h c).1.trans ((Cert.ReferenceIdeal.Read.val_main_v86_eq m' c).trans ?_)
      rw [h0, h1]
      refine ((Cert.KernelIdeal.Attention.arr_eq m c).trans ?_).symm
      rw [Cert.KernelIdeal.Attention.V_arg0]
      exact Cert.Attention.out_eq _ (Cert.Attention.real_planes _ _ hA) _ (Cert.KernelIdeal.Attention.V_bias m c) _
        (Cert.Attention.real_sinks _ _ hs) _ (Cert.KernelIdeal.Attention.V_sinks m c), (h c).2⟩)
      (Cert.ReferenceIdeal.Value.run m' ρ')⟩

/-- The other references run, keep their arguments and hold no semaphore, too. -/
theorem reference2_frame : Cert.quiescent_Reference2Ideal := fun m ρ _ =>
  (θ_run _ _ _).mono (fun r h => ⟨fun c => (h c).2, sem_eq_zero_of_no_sems (by decide) r.2⟩) (Cert.Reference2Ideal.Value.run m ρ)

/-- The kernel of the last feed-forward and its reference write the same array. -/
theorem value2 : Cert.algebraic_Kernel2Ideal_Reference2Ideal := fun m ρ m' ρ' _ hag =>
  ⟨fun c => (Cert.Kernel2Ideal.Gen.dats m 0 c).arrAt 9 Cert.Kernel2Ideal.cfg0.N, Cert.Kernel2Ideal.Value.run_blocks m ρ,
    (θ_run _ _ _).mono (fun r h c => ⟨by
      obtain ⟨h0, h1, h2, h3, h4, h5, h6, h7, h8⟩ := hag c
      refine (h c).1.trans ((Cert.Reference2Ideal.Read.val_main_v72_eq _).trans ?_)
      show Cert.Reference2Ideal.Read.val_main_v72 (F := Ideal) (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2))
        (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4))
        (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6))
        (m' ((c.tc : Thread Cert.Reference2Ideal.nD Cert.Reference2Ideal.τ).loc Cert.Reference2Ideal.main_arg7))
        (m' ((c.tc : Thread Cert.Reference2Ideal.nD Cert.Reference2Ideal.τ).loc Cert.Reference2Ideal.main_arg8)) = _
      rw [h0, h1, h2, h3, h4, h5, h6, h7, h8]
      exact (Cert.Ffn.last_eq m c).symm, (h c).2⟩) (Cert.Reference2Ideal.Value.run m' ρ')⟩

/-- As `reference_frame`. -/
theorem reference3_frame : Cert.quiescent_Reference3Ideal := fun m ρ _ =>
  (θ_run _ _ _).mono (fun r h => ⟨fun c => (h c).2, sem_eq_zero_of_no_sems (by decide) r.2⟩) (Cert.Reference3Ideal.Value.run m ρ)

/-- The kernel of the feed-forward after the state-space mixer and its reference write the same array. -/
theorem value3 : Cert.algebraic_Kernel3Ideal_Reference3Ideal := fun m ρ m' ρ' _ hag =>
  ⟨fun c => (Cert.Kernel3Ideal.Gen.dats m 0 c).arrAt 9 Cert.Kernel3Ideal.cfg0.N, Cert.Kernel3Ideal.Value.run_blocks m ρ,
    (θ_run _ _ _).mono (fun r h c => ⟨by
      obtain ⟨h0, h1, h2, h3, h4, h5, h6, h7, _⟩ := hag c
      refine (h c).1.trans ((Cert.Reference3Ideal.Read.val_main_v59_eq m' c).trans ?_)
      rw [h0, h1, h2, h3, h4, h5, h6, h7]
      exact (Cert.Ffn.glu_eq m c).symm, (h c).2⟩) (Cert.Reference3Ideal.Value.run m' ρ')⟩

/-- As `reference_frame`. -/
theorem reference4_frame : Cert.quiescent_Reference4Ideal := fun m ρ _ =>
  (θ_run _ _ _).mono (fun r h => ⟨fun c => (h c).2, sem_eq_zero_of_no_sems (by decide) r.2⟩) (Cert.Reference4Ideal.Value.run m ρ)

/-- The kernel of the feed-forward after the mixer's projection and its reference write the same array. -/
theorem value4 : Cert.algebraic_Kernel4Ideal_Reference4Ideal := fun m ρ m' ρ' _ hag =>
  ⟨fun c => (Cert.Kernel4Ideal.Gen.dats m 0 c).arrAt 8 Cert.Kernel4Ideal.cfg0.N, Cert.Kernel4Ideal.Value.run_blocks m ρ,
    (θ_run _ _ _).mono (fun r h c => ⟨by
      obtain ⟨h0, h1, h2, h3, h4, h5, h6, _⟩ := hag c
      refine (h c).1.trans ((Cert.Reference4Ideal.Read.val_main_v34_eq m' c).trans ?_)
      rw [h0, h1, h2, h3, h4, h5, h6]
      exact (Cert.Ffn.mix_eq m c).symm, (h c).2⟩) (Cert.Reference4Ideal.Value.run m' ρ')⟩

/-- As `reference_frame`. -/
theorem reference5_frame : Cert.quiescent_Reference5Ideal := fun m ρ _ =>
  (θ_run _ _ _).mono (fun r h => ⟨fun c => (h c).2.2, sem_eq_zero_of_no_sems (by decide) r.2⟩) (Cert.Reference5Ideal.Value.run m ρ)

/-- The kernel of the first feed-forward of the second layer and its reference write the same two arrays. -/
theorem value5 : Cert.algebraic_Kernel5Ideal_Reference5Ideal := fun m ρ m' ρ' _ hag =>
  ⟨fun c => (Cert.Kernel5Ideal.Gen.dats m 0 c).arrAt 5 Cert.Kernel5Ideal.cfg0.N, fun c => (Cert.Kernel5Ideal.Gen.dats m 0 c).arrAt 6 Cert.Kernel5Ideal.cfg0.N,
    Cert.Kernel5Ideal.Value.run_blocks m ρ,
    (θ_run _ _ _).mono (fun r h c => ⟨by
      obtain ⟨h0, h1, h2, h3⟩ := hag c
      refine (h c).1.trans ((Cert.Reference5Ideal.Read.val_main_v27_eq m' c).trans ?_)
      rw [h0, h1, h2, h3]
      exact (Cert.Ffn.second_eq m c).symm, by
      obtain ⟨h0, h1, h2, h3⟩ := hag c
      refine (h c).2.1.trans ((Cert.Reference5Ideal.Read.val_main_v42_eq m' c).trans ?_)
      rw [h0, h1, h2, h3]
      exact (Cert.Ffn.second_norm_eq m c).symm, (h c).2.2⟩) (Cert.Reference5Ideal.Value.run m' ρ')⟩

/-- As `reference_frame`. -/
theorem reference6_frame : Cert.quiescent_Reference6Ideal := fun m ρ _ =>
  (θ_run _ _ _).mono (fun r h => ⟨fun c => (h c).2, sem_eq_zero_of_no_sems (by decide) r.2⟩) (Cert.Reference6Ideal.Value.run m ρ)

/-- The kernel of the first feed-forward and its reference write the same array. -/
theorem value6 : Cert.algebraic_Kernel6Ideal_Reference6Ideal := fun m ρ m' ρ' _ hag =>
  ⟨fun c => (Cert.Kernel6Ideal.Gen.dats m 0 c).arrAt 5 Cert.Kernel6Ideal.cfg0.N, Cert.Kernel6Ideal.Value.run_blocks m ρ,
    (θ_run _ _ _).mono (fun r h c => ⟨by
      obtain ⟨h0, h1, h2, h3⟩ := hag c
      refine (h c).1.trans ((Cert.Reference6Ideal.Read.val_main_v27_eq m' c).trans ?_)
      rw [h0, h1, h2, h3]
      exact (Cert.Ffn.first_eq m c).symm, (h c).2⟩) (Cert.Reference6Ideal.Value.run m' ρ')⟩

/-- As `reference_frame`. -/
theorem reference7_frame : Cert.quiescent_Reference7Ideal := fun m ρ _ =>
  (θ_run _ _ _).mono (fun r h => ⟨fun c => (h c).2, sem_eq_zero_of_no_sems (by decide) r.2⟩) (Cert.Reference7Ideal.Value.run m ρ)

/-- The kernel of the projection and its reference write the same array. -/
theorem value7 : Cert.algebraic_Kernel7Ideal_Reference7Ideal := fun m ρ m' ρ' _ hag =>
  ⟨fun c => (Cert.Kernel7Ideal.Gen.dats m 0 c).arrAt 3 Cert.Kernel7Ideal.cfg0.N, Cert.Kernel7Ideal.Value.run_blocks m ρ,
    (θ_run _ _ _).mono (fun r h c => ⟨by
      obtain ⟨h0, h1, h2⟩ := hag c
      refine (h c).1.trans ((Cert.Reference7Ideal.Read.val_main_v19_eq _ _ _).trans ?_)
      rw [h0, h1, h2]
      exact (Cert.Ffn.proj_eq m c).symm, (h c).2⟩) (Cert.Reference7Ideal.Value.run m' ρ')⟩

/-- As `reference_frame`. -/
theorem reference8_frame : Cert.quiescent_Reference8Ideal := fun m ρ _ =>
  (θ_run _ _ _).mono (fun r h => ⟨fun c => (h c).2, sem_eq_zero_of_no_sems (by decide) r.2⟩) (Cert.Reference8Ideal.Value.run m ρ)

/-- The kernel of the chunk sums and its reference write the same array. -/
theorem value8 : Cert.algebraic_Kernel8Ideal_Reference8Ideal := fun m ρ m' ρ' _ hag =>
  ⟨fun c => (Cert.Kernel8Ideal.Gen.dats m 0 c).arrAt 2 Cert.Kernel8Ideal.cfg0.N, Cert.Kernel8Ideal.Value.run_blocks m ρ,
    (θ_run _ _ _).mono (fun r h c => ⟨by
      obtain ⟨h0, h1⟩ := hag c
      refine (h c).1.trans ((Cert.Reference8Ideal.Read.val_main_v3_eq _ _).trans ?_)
      rw [h0, h1]
      exact (Cert.Sums.sums_eq m c).symm, (h c).2⟩) (Cert.Reference8Ideal.Value.run m' ρ')⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Attention.finiteFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    trivial, attention_value, trivial, value2, trivial, value3, trivial, value4, trivial, value5, trivial, value6, trivial, value7, trivial, value8⟩

end Cert.Proof

end
